-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S128 : Shape := ⟨1, ![128]⟩
abbrev S24576x2048 : Shape := ⟨2, ![24576, 2048]⟩
abbrev S32x2048x512 : Shape := ⟨3, ![32, 2048, 512]⟩
abbrev S32x512x2048 : Shape := ⟨3, ![32, 512, 2048]⟩
abbrev S_ : Shape := ⟨0, ![]⟩
abbrev S1 : Shape := ⟨1, ![1]⟩

class Facts : Prop where
  bcast_S_S128 : S_.BroadcastsInDim S128 (![] : Fin 0 → Fin S128.rank)
  reducesTo_S128_S_d0 : S128.ReducesTo [0] S_
  h_S_ : 0 < S_.numel
  slices_S128_S1_127 : S128.Slices ![127] S1
  shapeCasts_S1_S_ : S1.ShapeCasts S_

variable [Facts]

def fn {F : FTy → Type} [FloatOps F] (main_arg0 : IVec S128 32) (main_arg1 : FVec F S24576x2048 .f32) (main_arg2 : FVec F S32x2048x512 .f32) (main_arg3 : FVec F S32x2048x512 .f32) (main_arg4 : FVec F S32x512x2048 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 1 := constantI S_ 1 1#1
  let main_v2 : IVec S_ 1 := (fun x v => Host.reduce IntOp.andi x v reducesTo_S128_S_d0 h_S_) main_v1 main_c_0
  let main_v3 : IVec S1 32 := (extractStridedSlice S1 ![127] · slices_S128_S1_127) main_arg0
  let main_v4 : IVec S_ 32 := shapeCast S_ main_v3 shapeCasts_S1_S_
  let main_c_1 : IVec S_ 32 := constantI S_ 32 1#32
  let main_v5 : IVec S_ 1 := cmpi .sge main_v4 main_c_1
  let main_v6 : IVec S_ 1 := andi main_v2 main_v5
  main_v6
-- ==== Kernel.lean ====
abbrev S128 : Shape := ⟨1, ![128]⟩
abbrev S24576x2048 : Shape := ⟨2, ![24576, 2048]⟩
abbrev S32x2048x512 : Shape := ⟨3, ![32, 2048, 512]⟩
abbrev S32x512x2048 : Shape := ⟨3, ![32, 512, 2048]⟩
abbrev S256x2048 : Shape := ⟨2, ![256, 2048]⟩
abbrev S1 : Shape := ⟨1, ![1]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 1
  | _ => 0

abbrev bufTy : (tb : Table) → Fin (tcTables nBuf tb) → BufTy
  | .hbm, ⟨0, _⟩ => ⟨S24576x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S24576x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S128, .i32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  ![v3.toNat]
def k0_cond2 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_2 : BitVec 32 := 0#32
  let v16 : BitVec 1 := Scalar.cmpi .ne v15 c0_i32_2
  v16

def k0_cond3 (i : grid0.Coords) (v0 : BitVec 32) : BitVec 1 :=
  let arg0 : BitVec 32 := BitVec.ofNat 32 (i 0).val
  let v17 : BitVec 1 := Scalar.cmpi .sge arg0 v0
  let v18 : BitVec 32 := Scalar.extui v17
  let c0_i32_3 : BitVec 32 := 0#32
  let v19 : BitVec 1 := Scalar.cmpi .ne v18 c0_i32_3
  v19

def cc0_transform_0 (inb_S128_S1_127 : ∀ a, (![127] : Fin 1 → Nat) a + S1.size a ≤ S128.size a) (numel1_S1 : S1.numel = 1) (pf : pre0.Contents (Elt F)) (i : grid0.Coords) : Fin 2 → Nat :=
  let arg0 : BitVec 32 := BitVec.ofNat 32 (i 0).val
  let c127 : Index := 127#32
  let v0 : BitVec 32 := pf.at 0 (Rect.unit (s := S128) ![127] S1.size inb_S128_S1_127) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128 : Shape := ⟨1, ![128]⟩
abbrev S24576x2048 : Shape := ⟨2, ![24576, 2048]⟩
abbrev S32x2048x512 : Shape := ⟨3, ![32, 2048, 512]⟩
abbrev S32x512x2048 : Shape := ⟨3, ![32, 512, 2048]⟩
abbrev S96 : Shape := ⟨1, ![96]⟩
abbrev S_ : Shape := ⟨0, ![]⟩
abbrev S1 : Shape := ⟨1, ![1]⟩
abbrev S96x1 : Shape := ⟨2, ![96, 1]⟩
abbrev S1x32 : Shape := ⟨2, ![1, 32]⟩
abbrev S96x32 : Shape := ⟨2, ![96, 32]⟩
abbrev S96x1x32 : Shape := ⟨3, ![96, 1, 32]⟩
abbrev S96x256x32 : Shape := ⟨3, ![96, 256, 32]⟩
abbrev S24576x32 : Shape := ⟨2, ![24576, 32]⟩
abbrev S24576x32x512 : Shape := ⟨3, ![24576, 32, 512]⟩
abbrev S24576x32x1 : Shape := ⟨3, ![24576, 32, 1]⟩

abbrev nBuf : Space → Nat
  | .hbm => 45
  | .vmem => 0
  | .smem => 0
  | _ => 0

abbrev bufTy : (tb : Table) → Fin (tcTables nBuf tb) → BufTy
  | .hbm, ⟨0, _⟩ => ⟨S128, .i32⟩
  | .hbm, ⟨1, _⟩ => ⟨S24576x2048, .f32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S96, .i32⟩
  | .hbm, ⟨6, _⟩ => ⟨S_, .i32⟩
  | .hbm, ⟨7, _⟩ => ⟨S96, .i32⟩
  | .hbm, ⟨8, _⟩ => ⟨S96, .i32⟩
  | .hbm, ⟨9, _⟩ => ⟨S96, .i32⟩
  | .hbm, ⟨10, _⟩ => ⟨S1, .i32⟩
  | .hbm, ⟨11, _⟩ => ⟨S_, .i32⟩
  | .hbm, ⟨12, _⟩ => ⟨S96, .i32⟩
  | .hbm, ⟨13, _⟩ => ⟨S96, .i1⟩
  | .hbm, ⟨14, _⟩ => ⟨S96x1, .i1⟩
  | .hbm, ⟨15, _⟩ => ⟨S96x1, .i32⟩
  | .hbm, ⟨16, _⟩ => ⟨S1x32, .i32⟩
  | .hbm, ⟨17, _⟩ => ⟨S96x32, .i32⟩
  | .hbm, ⟨18, _⟩ => ⟨S96x32, .i32⟩
  | .hbm, ⟨19, _⟩ => ⟨S96x32, .i1⟩
  | .hbm, ⟨20, _⟩ => ⟨S96x32, .f32⟩
  | .hbm, ⟨21, _⟩ => ⟨S_, .f32⟩
  | .hbm, ⟨22, _⟩ => ⟨S_, .f32⟩
  | .hbm, ⟨23, _⟩ => ⟨S96x32, .i1⟩
  | .hbm, ⟨24, _⟩ => ⟨S96x32, .f32⟩
  | .hbm, ⟨25, _⟩ => ⟨S96x32, .f32⟩
  | .hbm, ⟨26, _⟩ => ⟨S96x1x32, .f32⟩
  | .hbm, ⟨27, _⟩ => ⟨S96x256x32, .f32⟩
  | .hbm, ⟨28, _⟩ => ⟨S24576x32, .f32⟩
  | .hbm, ⟨29, _⟩ => ⟨S24576x32x512, .f32⟩
  | .hbm, ⟨30, _⟩ => ⟨S24576x32x512, .f32⟩
  | .hbm, ⟨31, _⟩ => ⟨S24576x32x512, .f32⟩
  | .hbm, ⟨32, _⟩ => ⟨S_, .f32⟩
  | .hbm, ⟨33, _⟩ => ⟨S24576x32x512, .f32⟩
  | .hbm, ⟨34, _⟩ => ⟨S24576x32x512, .f32⟩
  | .hbm, ⟨35, _⟩ => ⟨S_, .f32⟩
  | .hbm, ⟨36, _⟩ => ⟨S24576x32x512, .f32⟩
  | .hbm, ⟨37, _⟩ => ⟨S24576x32x512, .f32⟩
  | .hbm, ⟨38, _⟩ => ⟨S24576x32x512, .f32⟩
  | .hbm, ⟨39, _⟩ => ⟨S24576x32x512, .f32⟩
  | .hbm, ⟨40, _⟩ => ⟨S24576x32x512, .f32⟩
  | .hbm, ⟨41, _⟩ => ⟨S24576x32x1, .f32⟩
  | .hbm, ⟨42, _⟩ => ⟨S24576x32x512, .f32⟩
  | .hbm, ⟨43, _⟩ => ⟨S24576x32x512, .f32⟩
  | .hbm, ⟨44, _⟩ => ⟨S24576x2048, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Proof.Experts.Body.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table and the three scratch buffers, whole. -/
abbrev tab : Memref sig .tc .smem S128 .i32 := Memref.whole main_arg0
abbrev scr1 : Memref sig .tc .vmem S2048x512 .bf16 := Memref.whole cc0_scratch0
abbrev scr3 : Memref sig .tc .vmem S2048x512 .bf16 := Memref.whole cc0_scratch1
abbrev scr2 : Memref sig .tc .vmem S512x2048 .bf16 := Memref.whole cc0_scratch2

/-- The word that the body loads from the table at the offsets `off`. -/
abbrev ld (T : S128.Idx → Elt F .i32) (off : Fin 1 → ℕ) (h : ∀ a, off a + S1.size a ≤ S128.size a) : Elt F .i32 :=
  View.readAt (Elt F) tab.view (Rect.unit (s := S128) off S1.size h).toLoadRect T (Shape.Idx.first (numel1_S1.symm ▸ Nat.one_pos))

/-- The body's first condition: the tile is filled, and it is the first of its expert. -/
abbrev CastAt (i : grid0.Coords) (T : S128.Idx → Elt F .i32) : Prop :=
  Scalar.cmpi .ne (Scalar.extui (Scalar.andi (Scalar.cmpi .slt (BitVec.ofNat 32 (i 0).val) (ld T ![127] inb_S128_S1_127))
    (Scalar.ori (Scalar.cmpi .eq (BitVec.ofNat 32 (i 0).val) 0#32) (Scalar.cmpi .ne (ld T (k0_off1 i) (k0_off1_inb i)) (ld T (k0_off2 i) (k0_off2_inb i)))))) 0#32 = 1#1

theorem read_whole (b : Ref sig .tc) (f : b.ty.Contents (Elt F)) : (Memref.whole b).view.read (Elt F) f = f := by
  funext x
  rfl

/-- A buffer stored whole holds what was stored. -/
theorem held1 (w : S2048x512.Idx → Elt F .bf16) :
    scr1.view.writes (Elt F) scr1.view.junk [⟨Rect.unit ![0, 0] S2048x512.size inb_S2048x512_S2048x512_0_0, w⟩] = w :=
  (read_whole cc0_scratch0 _).symm.trans (View.read_writes_full scr1.view scr1.view.junk inb_S2048x512_S2048x512_0_0 w [])

theorem held3 (w : S2048x512.Idx → Elt F .bf16) :
    scr3.view.writes (Elt F) scr3.view.junk [⟨Rect.unit ![0, 0] S2048x512.size inb_S2048x512_S2048x512_0_0, w⟩] = w :=
  (read_whole cc0_scratch1 _).symm.trans (View.read_writes_full scr3.view scr3.view.junk inb_S2048x512_S2048x512_0_0 w [])

theorem held2 (w : S512x2048.Idx → Elt F .bf16) :
    scr2.view.writes (Elt F) scr2.view.junk [⟨Rect.unit ![0, 0] S512x2048.size inb_S512x2048_S512x2048_0_0, w⟩] = w :=
  (read_whole cc0_scratch2 _).symm.trans (View.read_writes_full scr2.view scr2.view.junk inb_S512x2048_S512x2048_0_0 w [])

theorem of_full {S : Shape} {e : EltTy} (M : Memref sig .tc .vmem S e) (a : S.Idx → Elt F e) {off : Fin S.rank → ℕ} (inb : ∀ k, off k + S.size k ≤ S.size k) :
    View.readAt (Elt F) M.view (Rect.unit off S.size inb).toLoadRect (M.view.rep a) = a := View.readAt_rep_full M.view a inb

/-- The weights of the scratch buffers after the cast, and the tile. -/
theorem held_tile {x x' : S256x2048.Idx → Elt F .f32} {s1 s1' s3 s3' : S2048x512.Idx → Elt F .bf16} {s2 s2' : S512x2048.Idx → Elt F .bf16}
    (h : x = x') (h1 : s1 = s1') (h3 : s3 = s3') (h2 : s2 = s2') : k0_pay4 x s1 s3 s2 = k0_pay4 x' s1' s3' s2' := by rw [h, h1, h3, h2]

theorem cov1 (w : S2048x512.Idx → Elt F .bf16) :
    scr1.view.readCov [⟨Rect.unit ![0, 0] S2048x512.size inb_S2048x512_S2048x512_0_0, w⟩] (Rect.unit (s := S2048x512) ![0, 0] S2048x512.size inb_S2048x512_S2048x512_0_0).toLoadRect = w :=
  View.readCov_full scr1.view inb_S2048x512_S2048x512_0_0 inb_S2048x512_S2048x512_0_0 w []

theorem at1 (w : S2048x512.Idx → Elt F .bf16) :
    View.readAt (Elt F) scr1.view (Rect.unit (s := S2048x512) ![0, 0] S2048x512.size inb_S2048x512_S2048x512_0_0).toLoadRect w = w :=
  (View.readAt_full scr1.view w inb_S2048x512_S2048x512_0_0).trans (read_whole cc0_scratch0 w)

theorem cov3 (w : S2048x512.Idx → Elt F .bf16) :
    scr3.view.readCov [⟨Rect.unit ![0, 0] S2048x512.size inb_S2048x512_S2048x512_0_0, w⟩] (Rect.unit (s := S2048x512) ![0, 0] S2048x512.size inb_S2048x512_S2048x512_0_0).toLoadRect = w :=
  View.readCov_full scr3.view inb_S2048x512_S2048x512_0_0 inb_S2048x512_S2048x512_0_0 w []

theorem at3 (w : S2048x512.Idx → Elt F .bf16) :
    View.readAt (Elt F) scr3.view (Rect.unit (s := S2048x512) ![0, 0] S2048x512.size inb_S2048x512_S2048x512_0_0).toLoadRect w = w :=
  (View.readAt_full scr3.view w inb_S2048x512_S2048x512_0_0).trans (read_whole cc0_scratch1 w)

theorem cov2 (w : S512x2048.Idx → Elt F .bf16) :
    scr2.view.readCov [⟨Rect.unit ![0, 0] S512x2048.size inb_S512x2048_S512x2048_0_0, w⟩] (Rect.unit (s := S512x2048) ![0, 0] S512x2048.size inb_S512x2048_S512x2048_0_0).toLoadRect = w :=
  View.readCov_full scr2.view inb_S512x2048_S512x2048_0_0 inb_S512x2048_S512x2048_0_0 w []

theorem at2 (w : S512x2048.Idx → Elt F .bf16) :
    View.readAt (Elt F) scr2.view (Rect.unit (s := S512x2048) ![0, 0] S512x2048.size inb_S512x2048_S512x2048_0_0).toLoadRect w = w :=
  (View.readAt_full scr2.view w inb_S512x2048_S512x2048_0_0).trans (read_whole cc0_scratch2 w)

variable (c : Dev nD) (i : grid0.Coords)
  (arg2 : Memref sig .tc .vmem S256x2048 .f32) (harg2 : arg2.IsWhole)
  (arg3 : Memref sig .tc .vmem S1x2048x512 .f32) (harg3 : arg3.IsWhole)
  (arg4 : Memref sig .tc .vmem S1x2048x512 .f32) (harg4 : arg4.IsWhole)
  (arg5 : Memref sig .tc .vmem S1x512x2048 .f32) (harg5 : arg5.IsWhole)
  (arg6 : Memref sig .tc .vmem S256x2048 .f32) (harg6 : arg6.IsWhole)
  (T : S128.Idx → Elt F .i32)
  (x : S256x2048.Idx → Elt F .f32) (a1 a3 : S1x2048x512.Idx → Elt F .f32) (a2 : S1x512x2048.Idx → Elt F .f32)

/-- What the body holds of a point's memory: the blocks of the rows and of the weights, the table, the result's buffer
and the three scratch buffers. -/
def Hold (s1 s3 : S2048x512.Idx → Elt F .bf16) (s2 : S512x2048.Idx → Elt F .bf16) (O : sProp 𝕄) : sProp 𝕄 :=
  iprop((arg2.view.loc (c : Thread nD τ) ↦[arg2.view.set]{fullShare} arg2.view.rep x)
    ∗ (arg3.view.loc (c : Thread nD τ) ↦[arg3.view.set]{fullShare} arg3.view.rep a1)
    ∗ (arg4.view.loc (c : Thread nD τ) ↦[arg4.view.set]{fullShare} arg4.view.rep a3)
    ∗ (arg5.view.loc (c : Thread nD τ) ↦[arg5.view.set]{fullShare} arg5.view.rep a2)
    ∗ (tab.view.loc (c : Thread nD τ) ↦{fullShare.right} T)
    ∗ (scr1.view.loc (c : Thread nD τ) ↦{fullShare} s1)
    ∗ (scr3.view.loc (c : Thread nD τ) ↦{fullShare} s3)
    ∗ (scr2.view.loc (c : Thread nD τ) ↦{fullShare} s2)
    ∗ O)

/-- The body of one point, on its buffers. -/
abbrev body : Prog (TpuEff nD τ sig (Elt F) Λ₀ .tc) PUnit :=
  cc0_experts i tab (Memref.isWhole_whole _) arg2 harg2 arg3 harg3 arg4 harg4 arg5 harg5 arg6 harg6
    scr1 (Memref.isWhole_whole _) scr3 (Memref.isWhole_whole _) scr2 (Memref.isWhole_whole _)

set_option maxHeartbeats 8000000 in
/-- A filled tile, the first of its expert: the weights are cast into the scratch buffers, and the tile is computed from them. -/
theorem run_first (hc : CastAt i T) (h2 : k0_cond2 i (ld T ![127] inb_S128_S1_127) = 1#1) (h3 : ¬k0_cond3 i (ld T ![127] inb_S128_S1_127) = 1#1)
    (s1 s3 : S2048x512.Idx → Elt F .bf16) (s2 : S512x2048.Idx → Elt F .bf16) (K : PUnit → sProp 𝕄) :
    iprop(Hold c arg2 arg3 arg4 arg5 T x a1 a3 a2 s1 s3 s2 iprop(∃ d, owns (c : Thread nD τ) arg6 fullShare d)
        ∗ (Hold c arg2 arg3 arg4 arg5 T x a1 a3 a2 (k0_pay1 a1) (k0_pay2 a3) (k0_pay3 a2)
            (owns (c : Thread nD τ) arg6 fullShare (k0_pay4 x (k0_pay1 a1) (k0_pay2 a3) (k0_pay3 a2))) -∗ K ⟨⟩))
      ⊢ wp frame (wpE (defs₀ (F := F)) Variants.none c none) Set.univ (body i arg2 harg2 arg3 harg3 arg4 harg4 arg5 harg5 arg6 harg6) K := by
  unfold Hold owns body
  rw [cc0_experts_eq_skeleton]; unfold cc0_experts_skel
  iintro ⟨⟨H0, H1, H2, H3, HT0, HS0, HS1, HS2, ⟨%d4, %f4, -, HO4⟩⟩, Hk⟩
  have hS0 : scr1.IsWhole := Memref.isWhole_whole _
  have hS1 : scr3.IsWhole := Memref.isWhole_whole _
  have hS2 : scr2.IsWhole := Memref.isWhole_whole _
  have hT0 : tab.IsWhole := Memref.isWhole_whole _
  sl_exec! (disch := first | (guard_target = Scalar.cmpi = _; exact hc) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HT0]; · iexact HT0
  have e1 : scr1.view.writes (Elt F) scr1.view.junk (run_first.sl.HS0_1 arg3 a1) = k0_pay1 a1 := by
    unfold run_first.sl.HS0_1
    exact (held1 _).trans (congrArg k0_pay1 (of_full arg3 a1 _))
  have e3 : scr3.view.writes (Elt F) scr3.view.junk (run_first.sl.HS1_1 arg4 a3) = k0_pay2 a3 := by
    unfold run_first.sl.HS1_1
    exact (held3 _).trans (congrArg k0_pay2 (of_full arg4 a3 _))
  have e2 : scr2.view.writes (Elt F) scr2.view.junk (run_first.sl.HS2_1 arg5 a2) = k0_pay3 a2 := by
    unfold run_first.sl.HS2_1
    exact (held2 _).trans (congrArg k0_pay3 (of_full arg5 a2 _))
  rw [e1, e3, e2]
  isplitl [HS0]; · iexact HS0
  isplitl [HS1]; · iexact HS1
  isplitl [HS2]; · iexact HS2
  iexists arg6.view.writes (Elt F) arg6.view.junk (run_first.sl.HO4_1 arg2 arg3 arg4 arg5 x a1 a3 a2); isplitr
  · ipureintro
    unfold run_first.sl.HO4_1
    refine (View.read_writes_full arg6.view _ _ _ []).trans ?_
    unfold run_first.sl.v22 run_first.sl.v24 run_first.sl.v36 run_first.sl.HS0_1 run_first.sl.HS1_1 run_first.sl.HS2_1
    exact held_tile (of_full arg2 x _) ((cov1 _).trans (congrArg k0_pay1 (of_full arg3 a1 _)))
      ((cov3 _).trans (congrArg k0_pay2 (of_full arg4 a3 _))) ((cov2 _).trans (congrArg k0_pay3 (of_full arg5 a2 _)))
  · iexact HO4

set_option maxHeartbeats 8000000 in
/-- A filled tile of the expert of the tile before it: the tile is computed from what the scratch buffers hold. -/
theorem run_same (hc : ¬CastAt i T) (h2 : k0_cond2 i (ld T ![127] inb_S128_S1_127) = 1#1) (h3 : ¬k0_cond3 i (ld T ![127] inb_S128_S1_127) = 1#1)
    (s1 s3 : S2048x512.Idx → Elt F .bf16) (s2 : S512x2048.Idx → Elt F .bf16) (K : PUnit → sProp 𝕄) :
    iprop(Hold c arg2 arg3 arg4 arg5 T x a1 a3 a2 s1 s3 s2 iprop(∃ d, owns (c : Thread nD τ) arg6 fullShare d)
        ∗ (Hold c arg2 arg3 arg4 arg5 T x a1 a3 a2 s1 s3 s2 (owns (c : Thread nD τ) arg6 fullShare (k0_pay4 x s1 s3 s2)) -∗ K ⟨⟩))
      ⊢ wp frame (wpE (defs₀ (F := F)) Variants.none c none) Set.univ (body i arg2 harg2 arg3 harg3 arg4 harg4 arg5 harg5 arg6 harg6) K := by
  unfold Hold owns body
  rw [cc0_experts_eq_skeleton]; unfold cc0_experts_skel
  iintro ⟨⟨H0, H1, H2, H3, HT0, HS0, HS1, HS2, ⟨%d4, %f4, -, HO4⟩⟩, Hk⟩
  have hS0 : scr1.IsWhole := Memref.isWhole_whole _
  have hS1 : scr3.IsWhole := Memref.isWhole_whole _
  have hS2 : scr2.IsWhole := Memref.isWhole_whole _
  have hT0 : tab.IsWhole := Memref.isWhole_whole _
  sl_exec! (disch := first | (guard_target = ¬(Scalar.cmpi = _); exact hc) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HT0]; · iexact HT0
  isplitl [HS0]; · iexact HS0
  isplitl [HS1]; · iexact HS1
  isplitl [HS2]; · iexact HS2
  iexists arg6.view.writes (Elt F) arg6.view.junk (run_same.sl.HO4_1 arg2 x s1 s3 s2); isplitr
  · ipureintro
    unfold run_same.sl.HO4_1
    refine (View.read_writes_full arg6.view _ _ _ []).trans ?_
    exact held_tile (of_full arg2 x _) (at1 s1) (at3 s3) (at2 s2)
  · iexact HO4

set_option maxHeartbeats 8000000 in
/-- An empty tile: it is written with zeros. -/
theorem run_empty (hc : ¬CastAt i T) (h2 : ¬k0_cond2 i (ld T ![127] inb_S128_S1_127) = 1#1) (h3 : k0_cond3 i (ld T ![127] inb_S128_S1_127) = 1#1)
    (s1 s3 : S2048x512.Idx → Elt F .bf16) (s2 : S512x2048.Idx → Elt F .bf16) (K : PUnit → sProp 𝕄) :
    iprop(Hold c arg2 arg3 arg4 arg5 T x a1 a3 a2 s1 s3 s2 iprop(∃ d, owns (c : Thread nD τ) arg6 fullShare d)
        ∗ (Hold c arg2 arg3 arg4 arg5 T x a1 a3 a2 s1 s3 s2 (owns (c : Thread nD τ) arg6 fullShare k0_pay5) -∗ K ⟨⟩))
      ⊢ wp frame (wpE (defs₀ (F := F)) Variants.none c none) Set.univ (body i arg2 harg2 arg3 harg3 arg4 harg4 arg5 harg5 arg6 harg6) K := by
  unfold Hold owns body
  rw [cc0_experts_eq_skeleton]; unfold cc0_experts_skel
  iintro ⟨⟨H0, H1, H2, H3, HT0, HS0, HS1, HS2, ⟨%d4, %f4, -, HO4⟩⟩, Hk⟩
  have hS0 : scr1.IsWhole := Memref.isWhole_whole _
  have hS1 : scr3.IsWhole := Memref.isWhole_whole _
  have hS2 : scr2.IsWhole := Memref.isWhole_whole _
  have hT0 : tab.IsWhole := Memref.isWhole_whole _
  sl_exec! (disch := first | (guard_target = ¬(Scalar.cmpi = _); exact hc) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [H3]; · iexact H3
  isplitl [HT0]; · iexact HT0
  isplitl [HS0]; · iexact HS0
  isplitl [HS1]; · iexact HS1
  isplitl [HS2]; · iexact HS2
  iexists arg6.view.writes (Elt F) arg6.view.junk run_empty.sl.HO4_1; isplitr
  · ipureintro
    unfold run_empty.sl.HO4_1
    exact View.read_writes_full arg6.view _ _ _ []
  · iexact HO4

end Cert.Experts

end
-- ==== Proof.Experts.Words.lean ====
module

public import proofs.«01_k».proof.Proof.Experts.Body
public import Idealize.ShloMosaic.Lib.WordCmp

@[expose] public section

set_option maxRecDepth 16384

noncomputable section

namespace Cert.Experts

open Cert.KernelIdeal Cert.KernelIdeal.Gen
open Idealize.ShloMosaic Idealize.ShloMosaic.WordCmp

variable {F : FTy → Type} [FloatOps F]

/-- The table's index at position `k`. -/
def wi (k : ℕ) (h : k < 128) : S128.Idx := fun a => ⟨k, by have e : a = 0 := Subsingleton.elim _ _; subst e; exact h⟩

theorem wi_ext (x : S128.Idx) {k : ℕ} (h : k < 128) (e : (x 0).val = k) : x = wi k h := by
  subst e
  funext a
  have ea : a = 0 := Subsingleton.elim _ _
  subst ea
  rfl

/-- The tables the layer makes: no word is negative, and at least one tile is filled. -/
structure Routed (T : S128.Idx → Elt F .i32) : Prop where
  pos : ∀ x, BitVec.toNat (T x) < 2 ^ 31
  some : 1 ≤ BitVec.toNat (T (wi 127 (by omega)))

theorem ld_eq (T : S128.Idx → Elt F .i32) (off : Fin 1 → ℕ) (h : ∀ a, off a + S1.size a ≤ S128.size a) (k : ℕ) (hk : k < 128) (e : off 0 = k) :
    ld T off h = T (wi k hk) := by
  subst e
  exact congrArg T (wi_ext _ _ rfl)

theorem at_eq (pf : pre0.Contents (Elt F)) (off : Fin 1 → ℕ) (h : ∀ a, off a + S1.size a ≤ S128.size a) (k : ℕ) (hk : k < 128) (e : off 0 = k) :
    pf.at 0 (Rect.unit (s := S128) off S1.size h) numel1_S1 = pf 0 (wi k hk) := by
  subst e
  exact congrArg (pf 0) (wi_ext _ _ rfl)

theorem atD_eq (pf : pre0.Contents (Elt F)) : pf.atD 0 ![127] = pf 0 (wi 127 (by omega)) := by
  have h : ∀ a : Fin 1, (![127] : Fin 1 → ℕ) a + 1 ≤ S128.size a := by decide
  unfold Pipeline.Prefetch.Contents.atD
  exact (dif_pos h).trans (congrArg (pf 0) (wi_ext _ _ rfl))

theorem lt96 (i : grid0.Coords) : (i 0).val < 96 := (i 0).isLt

theorem ofNat_toNat32 (i : grid0.Coords) : (BitVec.ofNat 32 (i 0).val).toNat = (i 0).val := by
  have := lt96 i
  rw [BitVec.toNat_ofNat]; omega

theorem off1_eq (i : grid0.Coords) : k0_off1 i 0 = (i 0).val := ofNat_toNat32 i

theorem off2_eq (i : grid0.Coords) : k0_off2 i 0 = (i 0).val - 1 := by
  have h := lt96 i
  show (Scalar.maxsi (Scalar.subi (BitVec.ofNat 32 (i 0).val) 1#32) 0#32).toNat = _
  generalize (i 0).val = k at h
  revert k; decide

/-- A bit widened is nonzero just if it is set. -/
theorem bit_iff (b : BitVec 1) : Scalar.cmpi .ne (Scalar.extui b) 0#32 = 1#1 ↔ b = 1#1 := by revert b; decide

theorem slt_iff (k : ℕ) (hk : k < 96) (v : BitVec 32) (hv : v.toNat < 2 ^ 31) : Scalar.cmpi .slt (BitVec.ofNat 32 k) v = 1#1 ↔ k < v.toNat := by
  have hk' : (BitVec.ofNat 32 k).toNat = k := by rw [BitVec.toNat_ofNat]; omega
  show IntOp.cmpi .slt _ _ = 1#1 ↔ _
  rw [cmpi_slt_of_lt (by rw [hk']; omega) hv, hk']
  by_cases h : k < v.toNat <;> simp [h]

theorem sge_iff (k : ℕ) (hk : k < 96) (v : BitVec 32) (hv : v.toNat < 2 ^ 31) : Scalar.cmpi .sge (BitVec.ofNat 32 k) v = 1#1 ↔ v.toNat ≤ k := by
  have hk' : (BitVec.ofNat 32 k).toNat = k := by rw [BitVec.toNat_ofNat]; omega
  show IntOp.cmpi .sge _ _ = 1#1 ↔ _
  rw [cmpi_sge_of_lt (by rw [hk']; omega) hv, hk']
  by_cases h : v.toNat ≤ k <;> simp [h]

theorem cond2_iff (i : grid0.Coords) (v : BitVec 32) (hv : v.toNat < 2 ^ 31) : k0_cond2 i v = 1#1 ↔ (i 0).val < v.toNat :=
  (bit_iff _).trans (slt_iff _ (lt96 i) v hv)

theorem cond3_iff (i : grid0.Coords) (v : BitVec 32) (hv : v.toNat < 2 ^ 31) : k0_cond3 i v = 1#1 ↔ v.toNat ≤ (i 0).val :=
  (bit_iff _).trans (sge_iff _ (lt96 i) v hv)

theorem castAt_iff (i : grid0.Coords) (T : S128.Idx → Elt F .i32) (hT : Routed T) :
    CastAt i T ↔ (i 0).val < BitVec.toNat (T (wi 127 (by omega))) ∧ ((i 0).val = 0
      ∨ T (wi (i 0).val (by have := lt96 i; omega)) ≠ T (wi ((i 0).val - 1) (by have := lt96 i; omega))) := by
  unfold CastAt
  rw [bit_iff, ld_eq T _ _ 127 (by omega) rfl, ld_eq T (k0_off1 i) _ _ (by have := lt96 i; omega) (off1_eq i), ld_eq T (k0_off2 i) _ _ (by have := lt96 i; omega) (off2_eq i)]
  refine (IntOp.andi_eq_one).trans (and_congr (slt_iff _ (lt96 i) _ (hT.pos _)) ((IntOp.ori_eq_one).trans (or_congr ?_ ?_)))
  · have h := lt96 i
    generalize (i 0).val = k at h
    revert k; decide
  · show IntOp.cmpi .ne _ _ = 1#1 ↔ _
    rw [cmpi_ne_eq]
    by_cases h : T (wi (i 0).val (by have := lt96 i; omega)) = T (wi ((i 0).val - 1) (by have := lt96 i; omega)) <;> simp [h]

/-- A word cut at 31. -/
theorem min31 (v : BitVec 32) (hv : v.toNat < 2 ^ 31) : (Scalar.minsi v 31#32).toNat = min v.toNat 31 := by
  show (if v.slt 31#32 then v else 31#32).toNat = _
  have e : v.slt 31#32 = decide (v.toNat < 31) := by
    rw [BitVec.slt, toInt_eq_toNat_of_lt_half hv]
    exact decide_eq_decide.mpr Int.ofNat_lt
  rw [e]
  by_cases h : v.toNat < 31
  · simp only [h, decide_true, if_true]; omega
  · simp only [h, decide_false, Bool.false_eq_true, if_false]
    show 31 = _
    omega

theorem min_last (k : ℕ) (hk : k < 96) (v : BitVec 32) (hv : v.toNat < 2 ^ 31) (h1 : 1 ≤ v.toNat) :
    (Scalar.minsi (BitVec.ofNat 32 k) (Scalar.subi v 1#32)).toNat = min k (v.toNat - 1) := by
  have hk' : (BitVec.ofNat 32 k).toNat = k := by rw [BitVec.toNat_ofNat]; omega
  have hs : (v - 1#32).toNat = v.toNat - 1 := by
    rw [BitVec.toNat_sub]
    show (2 ^ 32 - 1 + v.toNat) % 2 ^ 32 = _
    omega
  show (if (BitVec.ofNat 32 k).slt (v - 1#32) then BitVec.ofNat 32 k else v - 1#32).toNat = _
  have e : (BitVec.ofNat 32 k).slt (v - 1#32) = decide (k < v.toNat - 1) := by
    rw [BitVec.slt, toInt_eq_toNat_of_lt_half (by rw [hk']; omega), toInt_eq_toNat_of_lt_half (by rw [hs]; omega), hk', hs]
    exact decide_eq_decide.mpr Int.ofNat_lt
  rw [e]
  by_cases h : k < v.toNat - 1
  · simp only [h, decide_true, if_true, hk']; omega
  · simp only [h, decide_false, Bool.false_eq_true, if_false, hs]; omega

end Cert.Experts

end
-- ==== Proof.Experts.Region.lean ====
module

public import proofs.«01_k».proof.Proof.Experts.Words

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the staging cells. -/
abbrev EP : Emb (UR sig nD τ) (MT nD τ sig Unit (Elt F) ℕ (UR sig nD τ) ℕ) := emb₁

variable (a : (pcfg0 (F := F)).Adm) (m : (ℓ : Loc nD τ sig) → Buf (Elt F) ℓ) (ρ : Dev nD → PrngReg)

abbrev pcs : Fin 1 → Pipeline.Cfg sig Λ₀ := Pipeline.pin (pcfgs (F := F)) fun _ => a

abbrev crd (t : Fin (cfg0 a).N) : grid0.Coords := grid0.coords t

theorem crd_val : ∀ t : Fin grid0.N, (grid0.coords t 0).val = t.val := by decide +kernel

theorem lt128 (t : Fin (cfg0 a).N) : t.val < 128 := by
  have h : t.val < 96 := t.isLt
  omega

/-- Window `w`'s block at point `t`, read off its array at launch. -/
def iblk (c : Dev nD) (w : Fin (cfg0 a).W) (t : Fin (cfg0 a).N) : (((cfg0 a).win w).xblock (crd a t)).Idx → Elt F ((cfg0 a).win w).elt :=
  (((cfg0 a).win w).blk t).view.read (Elt F) (m (((cfg0 a).win w).arr.view.loc (c : Thread nD τ)))

abbrev bx (c : Dev nD) (t : Fin (cfg0 a).N) : S256x2048.Idx → Elt F .f32 := iblk a m c (0 : Fin 5) t
abbrev b1 (c : Dev nD) (t : Fin (cfg0 a).N) : S1x2048x512.Idx → Elt F .f32 := iblk a m c (1 : Fin 5) t
abbrev b3 (c : Dev nD) (t : Fin (cfg0 a).N) : S1x2048x512.Idx → Elt F .f32 := iblk a m c (2 : Fin 5) t
abbrev b2 (c : Dev nD) (t : Fin (cfg0 a).N) : S1x512x2048.Idx → Elt F .f32 := iblk a m c (3 : Fin 5) t

/-- How many tiles are filled. -/
abbrev cnt : ℕ := BitVec.toNat (a.1 0 (wi 127 (by omega)))

/-- The tile that the body leaves at point `t`. -/
def tile (c : Dev nD) (t : Fin (cfg0 a).N) : S256x2048.Idx → Elt F .f32 :=
  if t.val < cnt a then k0_pay4 (bx a m c t) (k0_pay1 (b1 a m c t)) (k0_pay2 (b3 a m c t)) (k0_pay3 (b2 a m c t)) else k0_pay5

/-- Before point `n`, after a filled tile, the scratch buffers hold that tile's weights cast. -/
def Inv (c : Dev nD) (n : ℕ) (s1 s3 : S2048x512.Idx → Elt F .bf16) (s2 : S512x2048.Idx → Elt F .bf16) : Prop :=
  ∀ u : Fin (cfg0 a).N, u.val + 1 = n → u.val < cnt a → s1 = k0_pay1 (b1 a m c u) ∧ s3 = k0_pay2 (b3 a m c u) ∧ s2 = k0_pay3 (b2 a m c u)

def Phi (c : Dev nD) (n : ℕ) : sProp 𝕄 :=
  iprop(∃ s1 s3 s2, ⌜Inv a m c n s1 s3 s2⌝ ∗ (scr1.view.loc (c : Thread nD τ) ↦{fullShare} s1) ∗ (scr3.view.loc (c : Thread nD τ) ↦{fullShare} s3)
    ∗ (scr2.view.loc (c : Thread nD τ) ↦{fullShare} s2) ∗ (tab.view.loc (c : Thread nD τ) ↦{fullShare.right} a.1 0))

/-- The proof data of the pipeline on core `c`. -/
def dats (_ : Fin 1) (c : Dev nD) : Dat τ (Elt F) Unit ℕ (UR sig nD τ) ℕ (cfg0 a) c where
  A w := m (((cfg0 a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => tile a m c t
  Φ t := Phi a m c t.val
  q _ := fullShare
  owed _ := 0

theorem after0 (c : Dev nD) (t : Fin (cfg0 a).N) : (dats a m 0 c).after (0 : Fin 5) t = iblk a m c (0 : Fin 5) t := rfl
theorem after1 (c : Dev nD) (t : Fin (cfg0 a).N) : (dats a m 0 c).after (1 : Fin 5) t = iblk a m c (1 : Fin 5) t := rfl
theorem after2 (c : Dev nD) (t : Fin (cfg0 a).N) : (dats a m 0 c).after (2 : Fin 5) t = iblk a m c (2 : Fin 5) t := rfl
theorem after3 (c : Dev nD) (t : Fin (cfg0 a).N) : (dats a m 0 c).after (3 : Fin 5) t = iblk a m c (3 : Fin 5) t := rfl
theorem after4 (c : Dev nD) (t : Fin (cfg0 a).N) : (dats a m 0 c).after (4 : Fin 5) t = tile a m c t := rfl

theorem before0 (c : Dev nD) (t : Fin (cfg0 a).N) (d) : (dats a m 0 c).before (0 : Fin 5) t d = iblk a m c (0 : Fin 5) t :=
  ((dats a m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfg0 a).N) (d) : (dats a m 0 c).before (1 : Fin 5) t d = iblk a m c (1 : Fin 5) t :=
  ((dats a m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfg0 a).N) (d) : (dats a m 0 c).before (2 : Fin 5) t d = iblk a m c (2 : Fin 5) t :=
  ((dats a m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfg0 a).N) (d) : (dats a m 0 c).before (3 : Fin 5) t d = iblk a m c (3 : Fin 5) t :=
  ((dats a m 0 c).before_in_eq_fetched (3 : Fin 5) rfl (fun _ => rfl) (fun _ _ _ => rfl) (fun t => by rw [after3]; unfold Dat.blockOf iblk; rfl) t d).trans
    (by unfold Dat.fetched Dat.blockOf iblk; rfl)

abbrev ms0 (t : Fin (cfg0 a).N) : Memref sig .tc .vmem S256x2048 .f32 := spec0_0.stage ((cfg0 a).slots t (0 : Fin 5))
abbrev hs0 (t : Fin (cfg0 a).N) : (ms0 a t).IsWhole := hstage0_0 (((cfg0 a).slots t (0 : Fin 5)).cast nbuf0_0)
abbrev ms1 (t : Fin (cfg0 a).N) : Memref sig .tc .vmem S1x2048x512 .f32 := spec0_1.stage ((cfg0 a).slots t (1 : Fin 5))
abbrev hs1 (t : Fin (cfg0 a).N) : (ms1 a t).IsWhole := hstage0_1 (((cfg0 a).slots t (1 : Fin 5)).cast nbuf0_1)
abbrev ms2 (t : Fin (cfg0 a).N) : Memref sig .tc .vmem S1x2048x512 .f32 := spec0_2.stage ((cfg0 a).slots t (2 : Fin 5))
abbrev hs2 (t : Fin (cfg0 a).N) : (ms2 a t).IsWhole := hstage0_2 (((cfg0 a).slots t (2 : Fin 5)).cast nbuf0_2)
abbrev ms3 (t : Fin (cfg0 a).N) : Memref sig .tc .vmem S1x512x2048 .f32 := spec0_3.stage ((cfg0 a).slots t (3 : Fin 5))
abbrev hs3 (t : Fin (cfg0 a).N) : (ms3 a t).IsWhole := hstage0_3 (((cfg0 a).slots t (3 : Fin 5)).cast nbuf0_3)
abbrev ms4 (t : Fin (cfg0 a).N) : Memref sig .tc .vmem S256x2048 .f32 := spec0_4.stage ((cfg0 a).slots t (4 : Fin 5))
abbrev hs4 (t : Fin (cfg0 a).N) : (ms4 a t).IsWhole := hstage0_4 (((cfg0 a).slots t (4 : Fin 5)).cast nbuf0_4)

theorem idle4 (hR : Routed (F := F) (a.1 0)) (t : Fin (cfg0 a).N) : (cfg0 a).idle (4 : Fin 5) ((cfg0 a).grid.coords t) = false := by
  show (!(k0_cond2 (crd a t) (a.1.atD 0 ![127]) == 1#1) && !(k0_cond3 (crd a t) (a.1.atD 0 ![127]) == 1#1)) = false
  rw [atD_eq]
  have h2 := cond2_iff (crd a t) (a.1 0 (wi 127 (by omega))) (hR.pos _)
  have h3 := cond3_iff (crd a t) (a.1 0 (wi 127 (by omega))) (hR.pos _)
  by_cases h : ((crd a t) 0).val < BitVec.toNat (a.1 0 (wi 127 (by omega)))
  · simp [h2.2 h]
  · simp [h3.2 (by omega)]

/-- The buffers of point `t`, as the body takes them. -/
abbrev held (c : Dev nD) (t : Fin (cfg0 a).N) (s1 s3 : S2048x512.Idx → Elt F .bf16) (s2 : S512x2048.Idx → Elt F .bf16) (O : sProp 𝕄) : sProp 𝕄 :=
  Hold c (ms0 a t) (ms1 a t) (ms2 a t) (ms3 a t) (a.1 0) (bx a m c t) (b1 a m c t) (b3 a m c t) (b2 a m c t) s1 s3 s2 O

abbrev post (c : Dev nD) (t : Fin (cfg0 a).N) : sProp 𝕄 :=
  iprop((dats a m 0 c).Φ t.succ ∗ (dats a m 0 c).owesAt () t.succ
    ∗ owns (c : Thread nD τ) (ms0 a t) fullShare (bx a m c t) ∗ owns (c : Thread nD τ) (ms1 a t) fullShare (b1 a m c t)
    ∗ owns (c : Thread nD τ) (ms2 a t) fullShare (b3 a m c t) ∗ owns (c : Thread nD τ) (ms3 a t) fullShare (b2 a m c t)
    ∗ owns (c : Thread nD τ) (ms4 a t) fullShare (tile a m c t))

theorem close (c : Dev nD) (t : Fin (cfg0 a).N) (s1 s3 : S2048x512.Idx → Elt F .bf16) (s2 : S512x2048.Idx → Elt F .bf16)
    (hI : Inv a m c (t.val + 1) s1 s3 s2) :
    iprop((dats a m 0 c).owesAt () t.castSucc ∗ held a m c t s1 s3 s2 (owns (c : Thread nD τ) (ms4 a t) fullShare (tile a m c t))) ⊢ post a m c t := by
  rw [show (dats a m 0 c).owesAt () t.castSucc = (dats a m 0 c).owesAt () t.succ from rfl]
  unfold post
  rw [show (dats a m 0 c).Φ t.succ = Phi a m c (t.val + 1) from rfl]
  unfold held Hold Phi
  iintro ⟨Ho, H0, H1, H2, H3, HT0, HS0, HS1, HS2, HO4⟩
  isplitl [HS0 HS1 HS2 HT0]
  · iexists s1; iexists s3; iexists s2
    isplitr; · ipureintro; exact hI
    isplitl [HS0]; · iexact HS0
    isplitl [HS1]; · iexact HS1
    isplitl [HS2]; · iexact HS2
    iexact HT0
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact HO4

/-- A filled tile that needs no new weights comes after a filled tile of the same expert. -/
theorem same_of (i : grid0.Coords) (T : S128.Idx → Elt F .i32) (hT : Routed T) (h : (i 0).val < BitVec.toNat (T (wi 127 (by omega))))
    (hc : ¬ CastAt i T) : (i 0).val ≠ 0 ∧ T (wi (i 0).val (by have := lt96 i; omega)) = T (wi ((i 0).val - 1) (by have := lt96 i; omega)) := by
  rw [castAt_iff i T hT] at hc
  refine ⟨fun h0 => hc ⟨h, .inl h0⟩, ?_⟩
  by_contra hne
  exact hc ⟨h, .inr hne⟩

/-- The body at point `t` on its staging memrefs, as the pipeline calls it. -/
abbrev bodyAt (t : Fin (cfg0 a).N) : Prog (TpuEff nD τ sig (Elt F) Λ₀ .tc) PUnit :=
  body (crd a t) (ms0 a t) (hs0 a t) (ms1 a t) (hs1 a t) (ms2 a t) (hs2 a t) (ms3 a t) (hs3 a t) (ms4 a t) (hs4 a t)

theorem step (hR : Routed (F := F) (a.1 0))
    (hW : ∀ (c : Dev nD) (t u : Fin (cfg0 a).N) (_ : t.val = u.val + 1), a.1 0 (wi t.val (lt128 a t)) = a.1 0 (wi u.val (lt128 a u)) →
      b1 a m c t = b1 a m c u ∧ b3 a m c t = b3 a m c u ∧ b2 a m c t = b2 a m c u)
    (c : Dev nD) (t : Fin (cfg0 a).N) (s1 s3 : S2048x512.Idx → Elt F .bf16) (s2 : S512x2048.Idx → Elt F .bf16) (hI : Inv a m c t.val s1 s3 s2) :
    iprop((dats a m 0 c).owesAt () t.castSucc ∗ held a m c t s1 s3 s2 iprop(∃ d, owns (c : Thread nD τ) (ms4 a t) fullShare d))
      ⊢ wp frame (wpE (defs₀ (F := F)) Variants.none c none) Set.univ (bodyAt a t) fun _ => post a m c t := by
  have hv : (crd a t 0).val = t.val := crd_val t
  have h2 := cond2_iff (crd a t) (a.1 0 (wi 127 (by omega))) (hR.pos _)
  have h3 := cond3_iff (crd a t) (a.1 0 (wi 127 (by omega))) (hR.pos _)
  by_cases h : t.val < cnt a
  · have e4 : tile a m c t = k0_pay4 (bx a m c t) (k0_pay1 (b1 a m c t)) (k0_pay2 (b3 a m c t)) (k0_pay3 (b2 a m c t)) := if_pos h
    have c2 : k0_cond2 (crd a t) (ld (a.1 0) ![127] inb_S128_S1_127) = 1#1 := by
      rw [ld_eq (a.1 0) ![127] inb_S128_S1_127 127 (by omega) rfl]; exact h2.2 (by rw [hv]; exact h)
    have c3 : ¬ k0_cond3 (crd a t) (ld (a.1 0) ![127] inb_S128_S1_127) = 1#1 := by
      rw [ld_eq (a.1 0) ![127] inb_S128_S1_127 127 (by omega) rfl]; exact fun hh => absurd (h3.1 hh) (by rw [hv]; exact Nat.not_le.2 h)
    by_cases hc : CastAt (crd a t) (a.1 0)
    · have hn : Inv a m c (t.val + 1) (k0_pay1 (b1 a m c t)) (k0_pay2 (b3 a m c t)) (k0_pay3 (b2 a m c t)) := by
        intro u hu _
        have : u = t := Fin.ext (by omega)
        subst this; exact ⟨rfl, rfl, rfl⟩
      iintro ⟨Ho, H⟩
      iapply (run_first c (crd a t) (ms0 a t) (hs0 a t) (ms1 a t) (hs1 a t) (ms2 a t) (hs2 a t) (ms3 a t) (hs3 a t) (ms4 a t) (hs4 a t) (a.1 0)
        (bx a m c t) (b1 a m c t) (b3 a m c t) (b2 a m c t) hc c2 c3 s1 s3 s2 _)
      isplitl [H]; · iexact H
      iintro H
      iapply (close a m c t _ _ _ hn)
      isplitl [Ho]; · iexact Ho
      rw [e4]
      iexact H
    · obtain ⟨h0, hT⟩ := same_of (crd a t) (a.1 0) hR (by rw [hv]; exact h) hc
      let u : Fin (cfg0 a).N := ⟨t.val - 1, by omega⟩
      have hu : t.val = u.val + 1 := by show t.val = t.val - 1 + 1; omega
      have hT' : a.1 0 (wi t.val (lt128 a t)) = a.1 0 (wi u.val (lt128 a u)) := by
        have e1 : wi (crd a t 0).val (by have := lt96 (crd a t); omega) = wi t.val (lt128 a t) := wi_ext _ _ hv
        have e2 : wi ((crd a t 0).val - 1) (by have := lt96 (crd a t); omega) = wi u.val (lt128 a u) := wi_ext _ _ (by show _ = t.val - 1; rw [← hv]; rfl)
        exact (congrArg (a.1 0) e1.symm).trans (hT.trans (congrArg (a.1 0) e2))
      obtain ⟨q1, q3, q2⟩ := hI u hu.symm (by omega)
      obtain ⟨w1, w3, w2⟩ := hW c t u hu hT'
      rw [← w1] at q1; rw [← w3] at q3; rw [← w2] at q2
      subst q1 q3 q2
      have hn : Inv a m c (t.val + 1) (k0_pay1 (b1 a m c t)) (k0_pay2 (b3 a m c t)) (k0_pay3 (b2 a m c t)) := by
        intro u hu _
        have : u = t := Fin.ext (by omega)
        subst this; exact ⟨rfl, rfl, rfl⟩
      iintro ⟨Ho, H⟩
      iapply (run_same c (crd a t) (ms0 a t) (hs0 a t) (ms1 a t) (hs1 a t) (ms2 a t) (hs2 a t) (ms3 a t) (hs3 a t) (ms4 a t) (hs4 a t) (a.1 0)
        (bx a m c t) (b1 a m c t) (b3 a m c t) (b2 a m c t) hc c2 c3 _ _ _ _)
      isplitl [H]; · iexact H
      iintro H
      iapply (close a m c t _ _ _ hn)
      isplitl [Ho]; · iexact Ho
      rw [e4]
      iexact H
  · have e4 : tile a m c t = k0_pay5 := if_neg h
    have c2 : ¬ k0_cond2 (crd a t) (ld (a.1 0) ![127] inb_S128_S1_127) = 1#1 := by
      rw [ld_eq (a.1 0) ![127] inb_S128_S1_127 127 (by omega) rfl]; exact fun hh => h (by rw [← hv]; exact h2.1 hh)
    have c3 : k0_cond3 (crd a t) (ld (a.1 0) ![127] inb_S128_S1_127) = 1#1 := by
      rw [ld_eq (a.1 0) ![127] inb_S128_S1_127 127 (by omega) rfl]; exact h3.2 (by rw [hv]; exact Nat.not_lt.1 h)
    have hc : ¬ CastAt (crd a t) (a.1 0) := fun hc => h (by rw [← hv]; exact ((castAt_iff _ _ hR).1 hc).1)
    have hn : Inv a m c (t.val + 1) s1 s3 s2 := by
      intro u hu hl
      have : u.val = t.val := by omega
      rw [this] at hl
      exact absurd hl h
    iintro ⟨Ho, H⟩
    iapply (run_empty c (crd a t) (ms0 a t) (hs0 a t) (ms1 a t) (hs1 a t) (ms2 a t) (hs2 a t) (ms3 a t) (hs3 a t) (ms4 a t) (hs4 a t) (a.1 0)
      (bx a m c t) (b1 a m c t) (b3 a m c t) (b2 a m c t) hc c2 c3 s1 s3 s2 _)
    isplitl [H]; · iexact H
    iintro H
    iapply (close a m c t _ _ _ hn)
    isplitl [Ho]; · iexact Ho
    rw [e4]
    iexact H

end Cert.Experts

end
-- ==== Proof.Experts.Blocks.lean ====
module

public import proofs.«01_k».proof.Proof.Experts.Region

@[expose] public section

set_option maxRecDepth 16384
set_option Elab.async false

noncomputable section

namespace Cert.Experts

open Cert.KernelIdeal Cert.KernelIdeal.Gen
open Idealize.ShloMosaic
open Idealize.ShloMosaic.TcCoe

variable {F : FTy → Type} [FloatOps F]

/-- An index of the rows, from its two coordinates. -/
def ixr (r k : ℕ) (hr : r < 24576) (hk : k < 2048) : S24576x2048.Idx := fun | ⟨0, _⟩ => ⟨r, hr⟩ | ⟨1, _⟩ => ⟨k, hk⟩

/-- An index of the first two weights, from its coordinates. -/
def ixu (e k j : ℕ) (he : e < 32) (hk : k < 2048) (hj : j < 512) : S32x2048x512.Idx := fun | ⟨0, _⟩ => ⟨e, he⟩ | ⟨1, _⟩ => ⟨k, hk⟩ | ⟨2, _⟩ => ⟨j, hj⟩

/-- An index of the last weights, from its coordinates. -/
def ixd (e j k : ℕ) (he : e < 32) (hj : j < 512) (hk : k < 2048) : S32x512x2048.Idx := fun | ⟨0, _⟩ => ⟨e, he⟩ | ⟨1, _⟩ => ⟨j, hj⟩ | ⟨2, _⟩ => ⟨k, hk⟩

/-- The expert of tile `t` of the table `T`. -/
def own (T : S128.Idx → BitVec 32) (t : ℕ) (ht : t < 128) : ℕ := min (BitVec.toNat (T (wi t ht))) 31

theorem own_lt (T : S128.Idx → BitVec 32) (t : ℕ) (ht : t < 128) : own T t ht < 32 := by unfold own; omega

/-- The rows block that tile `t` is handed: its own while tiles are filled, then the last filled one. -/
theorem rows_at (pf : pre0.Contents (Elt F)) (hR : Routed (F := F) (pf 0)) (i : grid0.Coords) :
    cc0_transform_0 inb_S128_S1_127 numel1_S1 pf i = ![min (i 0).val (BitVec.toNat (pf 0 (wi 127 (by omega))) - 1), 0] :=
  (congrArg (fun v : BitVec 32 => ![(Scalar.minsi (BitVec.ofNat 32 (i 0).val) (Scalar.subi v 1#32)).toNat, (0 : ℕ)])
    (at_eq pf ![127] inb_S128_S1_127 127 (by omega) rfl)).trans
    (congrArg (fun v : ℕ => ![v, (0 : ℕ)]) (min_last _ (lt96 i) _ (hR.pos _) hR.some))

/-- The weights block that tile `t` is handed: its expert's. -/
theorem expert_at (pf : pre0.Contents (Elt F)) (hR : Routed (F := F) (pf 0)) (i : grid0.Coords) (hi : (i 0).val < 128) :
    cc0_transform_1 k0_off1_inb numel1_S1 pf i = ![own (pf 0) (i 0).val hi, 0, 0] :=
  (congrArg (fun v : BitVec 32 => ![(Scalar.minsi v 31#32).toNat, (0 : ℕ), 0])
    (at_eq pf (k0_off1 i) (k0_off1_inb i) (i 0).val hi (off1_eq i))).trans
    (congrArg (fun v : ℕ => ![v, (0 : ℕ), 0]) (min31 _ (hR.pos _)))

variable (a : (pcfg0 (F := F)).Adm) (m : (ℓ : Loc nD τ sig) → Buf (Elt F) ℓ)

theorem index0 (hR : Routed (F := F) (a.1 0)) (t : Fin (cfg0 a).N) :
    ((cfg0 a).win (0 : Fin 5)).index t = ![min t.val (cnt a - 1), 0] :=
  (rows_at a.1 hR (grid0.coords t)).trans (congrArg (fun v : ℕ => ![min v (cnt a - 1), (0 : ℕ)]) (crd_val t))

theorem own_congr (T : S128.Idx → BitVec 32) {s t : ℕ} (hs : s < 128) (ht : t < 128) (h : s = t) : own T s hs = own T t ht := by
  subst h; rfl

theorem lift_own (T : S128.Idx → BitVec 32) {s t : ℕ} (hs : s < 128) (ht : t < 128) (h : s = t) :
    ![own T s hs, 0, 0] = ![own T t ht, 0, 0] := by
  subst h; rfl

theorem index1 (hR : Routed (F := F) (a.1 0)) (t : Fin (cfg0 a).N) :
    ((cfg0 a).win (1 : Fin 5)).index t = ![own (a.1 0) t.val (lt128 a t), 0, 0] :=
  (expert_at a.1 hR (grid0.coords t) (by have := lt128 a t; rw [crd_val t]; exact this)).trans (lift_own _ _ _ (crd_val t))
theorem index2 (hR : Routed (F := F) (a.1 0)) (t : Fin (cfg0 a).N) :
    ((cfg0 a).win (2 : Fin 5)).index t = ![own (a.1 0) t.val (lt128 a t), 0, 0] := index1 a hR t
theorem index3 (hR : Routed (F := F) (a.1 0)) (t : Fin (cfg0 a).N) :
    ((cfg0 a).win (3 : Fin 5)).index t = ![own (a.1 0) t.val (lt128 a t), 0, 0] := index1 a hR t

theorem blkx (hR : Routed (F := F) (a.1 0)) (c : Dev nD) (t : Fin (cfg0 a).N) (h : t.val < cnt a) (y : S256x2048.Idx) :
    bx a m c t y = m ((c : Thread nD τ).loc main_arg1) (ixr (256 * t.val + (y 0).val) (y 1).val
      (by have h1 : t.val < 96 := t.isLt; have h2 : (y 0).val < 256 := (y 0).isLt; omega) (y 1).isLt) := by
  have e := index0 a hR t
  refine congrArg (m ((c : Thread nD τ).loc main_arg1)) (funext fun k => Fin.ext ?_)
  match k with
  | ⟨0, _⟩ =>
    refine (show _ = ((cfg0 a).win (0 : Fin 5)).index t 0 * 256 + 1 * (y 0).val from rfl).trans ?_
    rw [e]
    show min t.val (cnt a - 1) * 256 + 1 * (y 0).val = 256 * t.val + (y 0).val
    rw [Nat.min_eq_left (by omega)]; omega
  | ⟨1, _⟩ =>
    refine (show _ = ((cfg0 a).win (0 : Fin 5)).index t 1 * 2048 + 1 * (y 1).val from rfl).trans ?_
    rw [e]
    show 0 * 2048 + 1 * (y 1).val = (y 1).val
    omega

theorem blk1 (hR : Routed (F := F) (a.1 0)) (c : Dev nD) (t : Fin (cfg0 a).N) (y : S1x2048x512.Idx) :
    b1 a m c t y = m ((c : Thread nD τ).loc main_arg2) (ixu (own (a.1 0) t.val (lt128 a t)) (y 1).val (y 2).val (own_lt _ _ _) (y 1).isLt (y 2).isLt) := by
  have e := index1 a hR t
  have h0 : (y 0).val < 1 := (y 0).isLt
  refine congrArg (m ((c : Thread nD τ).loc main_arg2)) (funext fun k => Fin.ext ?_)
  match k with
  | ⟨0, _⟩ =>
    refine (show _ = ((cfg0 a).win (1 : Fin 5)).index t 0 * 1 + 1 * (y 0).val from rfl).trans ?_
    rw [e]
    show own (a.1 0) t.val (lt128 a t) * 1 + 1 * (y 0).val = own (a.1 0) t.val (lt128 a t)
    omega
  | ⟨1, _⟩ =>
    refine (show _ = ((cfg0 a).win (1 : Fin 5)).index t 1 * 2048 + 1 * (y 1).val from rfl).trans ?_
    rw [e]
    show 0 * 2048 + 1 * (y 1).val = (y 1).val
    omega
  | ⟨2, _⟩ =>
    refine (show _ = ((cfg0 a).win (1 : Fin 5)).index t 2 * 512 + 1 * (y 2).val from rfl).trans ?_
    rw [e]
    show 0 * 512 + 1 * (y 2).val = (y 2).val
    omega

theorem blk3 (hR : Routed (F := F) (a.1 0)) (c : Dev nD) (t : Fin (cfg0 a).N) (y : S1x2048x512.Idx) :
    b3 a m c t y = m ((c : Thread nD τ).loc main_arg3) (ixu (own (a.1 0) t.val (lt128 a t)) (y 1).val (y 2).val (own_lt _ _ _) (y 1).isLt (y 2).isLt) := by
  have e := index2 a hR t
  have h0 : (y 0).val < 1 := (y 0).isLt
  refine congrArg (m ((c : Thread nD τ).loc main_arg3)) (funext fun k => Fin.ext ?_)
  match k with
  | ⟨0, _⟩ =>
    refine (show _ = ((cfg0 a).win (2 : Fin 5)).index t 0 * 1 + 1 * (y 0).val from rfl).trans ?_
    rw [e]
    show own (a.1 0) t.val (lt128 a t) * 1 + 1 * (y 0).val = own (a.1 0) t.val (lt128 a t)
    omega
  | ⟨1, _⟩ =>
    refine (show _ = ((cfg0 a).win (2 : Fin 5)).index t 1 * 2048 + 1 * (y 1).val from rfl).trans ?_
    rw [e]
    show 0 * 2048 + 1 * (y 1).val = (y 1).val
    omega
  | ⟨2, _⟩ =>
    refine (show _ = ((cfg0 a).win (2 : Fin 5)).index t 2 * 512 + 1 * (y 2).val from rfl).trans ?_
    rw [e]
    show 0 * 512 + 1 * (y 2).val = (y 2).val
    omega

theorem blk2 (hR : Routed (F := F) (a.1 0)) (c : Dev nD) (t : Fin (cfg0 a).N) (y : S1x512x2048.Idx) :
    b2 a m c t y = m ((c : Thread nD τ).loc main_arg4) (ixd (own (a.1 0) t.val (lt128 a t)) (y 1).val (y 2).val (own_lt _ _ _) (y 1).isLt (y 2).isLt) := by
  have e := index3 a hR t
  have h0 : (y 0).val < 1 := (y 0).isLt
  refine congrArg (m ((c : Thread nD τ).loc main_arg4)) (funext fun k => Fin.ext ?_)
  match k with
  | ⟨0, _⟩ =>
    refine (show _ = ((cfg0 a).win (3 : Fin 5)).index t 0 * 1 + 1 * (y 0).val from rfl).trans ?_
    rw [e]
    show own (a.1 0) t.val (lt128 a t) * 1 + 1 * (y 0).val = own (a.1 0) t.val (lt128 a t)
    omega
  | ⟨1, _⟩ =>
    refine (show _ = ((cfg0 a).win (3 : Fin 5)).index t 1 * 512 + 1 * (y 1).val from rfl).trans ?_
    rw [e]
    show 0 * 512 + 1 * (y 1).val = (y 1).val
    omega
  | ⟨2, _⟩ =>
    refine (show _ = ((cfg0 a).win (3 : Fin 5)).index t 2 * 2048 + 1 * (y 2).val from rfl).trans ?_
    rw [e]
    show 0 * 2048 + 1 * (y 2).val = (y 2).val
    omega

end Cert.Experts

end
-- ==== Proof.Experts.Spec.lean ====
module

public import proofs.«01_k».proof.Proof.Experts.Blocks
public import Idealize.ShloMosaic.Lib.Pointwise

@[expose] public section

set_option maxRecDepth 16384
set_option maxHeartbeats 1000000

noncomputable section

namespace Cert.Experts

open Idealize.ShloMosaic Idealize.ShloMosaic.TcCoe Cert.KernelIdeal Cert.KernelIdeal.Gen

/-- The entries of the rows, as a function of two natural numbers (zero outside). -/
def xat (X : S24576x2048.Idx → EReal) (r k : ℕ) : EReal := if h : r < 24576 ∧ k < 2048 then X (ixr r k h.1 h.2) else 0

/-- The entries of the first two weights, as a function of natural numbers (zero outside). -/
def uat (W : S32x2048x512.Idx → EReal) (e k j : ℕ) : EReal :=
  if h : e < 32 ∧ k < 2048 ∧ j < 512 then W (ixu e k j h.1 h.2.1 h.2.2) else 0

/-- The entries of the last weights, as a function of natural numbers (zero outside). -/
def dat (W : S32x512x2048.Idx → EReal) (e j k : ℕ) : EReal :=
  if h : e < 32 ∧ j < 512 ∧ k < 2048 then W (ixd e j k h.1 h.2.1 h.2.2) else 0

theorem xat_eq (X : S24576x2048.Idx → EReal) {r k : ℕ} (hr : r < 24576) (hk : k < 2048) : X (ixr r k hr hk) = xat X r k := by
  unfold xat; rw [dif_pos ⟨hr, hk⟩]
theorem uat_eq (W : S32x2048x512.Idx → EReal) {e k j : ℕ} (he : e < 32) (hk : k < 2048) (hj : j < 512) : W (ixu e k j he hk hj) = uat W e k j := by
  unfold uat; rw [dif_pos ⟨he, hk, hj⟩]
theorem dat_eq (W : S32x512x2048.Idx → EReal) {e j k : ℕ} (he : e < 32) (hj : j < 512) (hk : k < 2048) : W (ixd e j k he hj hk) = dat W e j k := by
  unfold dat; rw [dif_pos ⟨he, hj, hk⟩]

/-- A row times a column of an expert's weights. -/
def proj (x : ℕ → ℕ → EReal) (w : ℕ → ℕ → EReal) (r j : ℕ) : EReal := ∑ i : Fin 2048, x r i.val * w i.val j

/-- `g` times its logistic, times `u`. -/
def act (g u : EReal) : EReal := g * Ideal.div 1 (1 + Ideal.exp (-g)) * u

/-- One entry of an expert's result on a row. -/
def mlp (x w1 w3 w2 : ℕ → ℕ → EReal) (r k : ℕ) : EReal := ∑ j : Fin 512, act (proj x w1 r j.val) (proj x w3 r j.val) * w2 j.val k

theorem one_bits : Ideal.ofBits .f32 0x3F800000#32 = 1 := by
  simp [Ideal.ofBits, Ideal.ieee, -EReal.coe_mul]; norm_num

theorem zero_bits : Ideal.ofBits .f32 0x00000000#32 = 0 := by
  simp [Ideal.ofBits, Ideal.ieee]

/-- What the body leaves for a filled tile, of blocks given by their entries. -/
theorem filled_at (X : S256x2048.Idx → EReal) (A1 A3 : S1x2048x512.Idx → EReal) (A2 : S1x512x2048.Idx → EReal)
    (x w1 w3 w2 : ℕ → ℕ → EReal) (hx : ∀ y, X y = x (y 0).val (y 1).val) (h1 : ∀ y, A1 y = w1 (y 1).val (y 2).val)
    (h3 : ∀ y, A3 y = w3 (y 1).val (y 2).val) (h2 : ∀ y, A2 y = w2 (y 1).val (y 2).val) (y : S256x2048.Idx) :
    k0_pay4 (F := Ideal) X (k0_pay1 (F := Ideal) A1) (k0_pay2 (F := Ideal) A3) (k0_pay3 (F := Ideal) A2) y = mlp x w1 w3 w2 (y 0).val (y 1).val := by
  pointwise [k0_pay4, k0_pay1, k0_pay2, k0_pay3]
  simp only [hx, h1, h3, h2, zero_sub]
  rfl

theorem empty_at (y : S256x2048.Idx) : k0_pay5 (F := Ideal) y = 0 := by
  pointwise [k0_pay5]

end Cert.Experts

end
-- ==== Proof.Experts.Launch.lean ====
module

public import proofs.«01_k».proof.Proof.Experts.Region

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- Consecutive tiles of one expert are handed the same weights. -/
def Steady : Prop := ∀ (c : Dev nD) (t u : Fin (cfg0 a).N) (_ : t.val = u.val + 1), a.1 0 (wi t.val (lt128 a t)) = a.1 0 (wi u.val (lt128 a u)) →
  b1 a m c t = b1 a m c u ∧ b3 a m c t = b3 a m c u ∧ b2 a m c t = b2 a m c u

variable (hR : Routed (F := F) (a.1 0)) (hW : Steady a m)

include hR hW in
theorem obligation (c : Dev nD) : BodyObligation (dats a m 0 c) (defs₀ (F := F)) Variants.none () Set.univ := fun t => by
  rw [bigSep_W0, bigSep_W0]
  rewrite [idle4 a hR t]
  simp only [before0, before1, before2, before3]
  rewrite [show (dats a m 0 c).Φ t.castSucc = Phi a m c t.val from rfl]
  refine (?_ : _ ⊢ wp frame (wpE (defs₀ (F := F)) Variants.none c none) Set.univ (bodyAt a t) fun _ => post a m c t)
  unfold Phi
  iintro ⟨⟨%s1, %s3, %s2, %hI, HS0, HS1, HS2, HT0⟩, Ho, ⟨%d0, H0⟩, ⟨%d1, H1⟩, ⟨%d2, H2⟩, ⟨%d3, H3⟩, ⟨%d4, H4⟩⟩
  iapply (step a m hR hW c t s1 s3 s2 hI)
  isplitl [Ho]; · iexact Ho
  unfold held Hold
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HS0]; · iexact HS0
  isplitl [HS1]; · iexact HS1
  isplitl [HS2]; · iexact HS2
  iexists _; iexact H4

def u₀ : UR sig nD τ :=
  initOf (Pipeline.cells (pcs a) ((launch0 (F := F)).cellOf_inj fun _ => a)) (Pipeline.launchToks (pcs a) ((launch0 (F := F)).cellOf_inj fun _ => a))

theorem share_eq (c : Dev nD) (w : Fin (cfg0 a).W) : (dats a m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem enter (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0⟩, ⟨%s1, HS0⟩, ⟨%s3, HS1⟩, ⟨%s2, HS2⟩⟩
  iexists s1; iexists s3; iexists s2
  isplitr; · ipureintro; exact fun u hu => absurd hu (Nat.succ_ne_zero _)
  isplitl [HS0]; · iexact HS0
  isplitl [HS1]; · iexact HS1
  isplitl [HS2]; · iexact HS2
  iexact HT0

theorem leave (c : Dev nD) : (dats a m 0 c).Φ (Fin.last (cfg0 a).N) ⊢ iprop(BI.emp ∗ Pipeline.scopedRest spec0 c) := by
  rw [scopedRest0_eq, show (dats a m 0 c).Φ (Fin.last (cfg0 a).N) = Phi a m c (cfg0 a).N from rfl]
  unfold Phi
  iintro ⟨%s1, %s3, %s2, -, HS0, HS1, HS2, -⟩
  isplitr; · iempintro
  isplitl [HS0]; · iexists s1; iexact HS0
  isplitl [HS1]; · iexists s3; iexact HS1
  iexists s2; iexact HS2

/-- Every array ends at what the pipeline's data say, and the table as it was. -/
def Ends : PUnit × MemSt nD τ sig (Elt F) → Prop := fun r =>
  ∀ c : Dev nD, (∀ w : Fin (cfg0 a).W, r.2.mem (((cfg0 a).win w).arr.view.loc (c : Thread nD τ)) = (dats a m 0 c).arrAt w (cfg0 a).N)
    ∧ ∀ j, r.2.mem ((c : Thread nD τ).loc (pre0.ref j)) = a.1 j

theorem table (hp : ∀ c : Dev nD, m ((c : Thread nD τ).loc main_arg0) = a.1 0) (c : Dev nD) (j : Fin 1) :
    m ((c : Thread nD τ).loc (pre0.ref j)) = a.1 j := by
  fin_cases j
  · exact hp c

include hR hW in
set_option backward.isDefEq.respectTransparency.types false in
set_option maxHeartbeats 4000000 in
theorem launched (hp : ∀ c : Dev nD, m ((c : Thread nD τ).loc main_arg0) = a.1 0) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (obligation a m hR hW c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := table a m hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hR hW in
/-- The result ends at what the pipeline's data say, the arguments as they were, every counter at zero. -/
theorem ends (hp : ∀ c : Dev nD, m ((c : Thread nD τ).loc main_arg0) = a.1 0) :
    θ_run (defs (F := F)) (onTc (τ := τ) (main (F := F))) ⟨m, fun _ => 0, ρ⟩ (fun r => (∀ c : Dev nD,
      r.2.mem ((c.tc : Thread nD τ).loc main_v0) = (dats a m 0 c).arrAt (4 : Fin 5) (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 (4 : Fin 5), ((h.1 c).2 0).trans (hp c).symm,
    ((h.1 c).1 (0 : Fin 5)).trans ((dats a m 0 c).arrAt_in (0 : Fin 5) rfl _), ((h.1 c).1 (1 : Fin 5)).trans ((dats a m 0 c).arrAt_in (1 : Fin 5) rfl _),
    ((h.1 c).1 (2 : Fin 5)).trans ((dats a m 0 c).arrAt_in (2 : Fin 5) rfl _), ((h.1 c).1 (3 : Fin 5)).trans ((dats a m 0 c).arrAt_in (3 : Fin 5) rfl _)⟩, h.2⟩)
    (launched a m ρ hR hW hp)

end Cert.Experts

end
-- ==== Proof.Experts.Table.lean ====
module

public import proofs.«01_k».proof.Proof.Experts.Blocks
public import proofs.«01_k».proof.Proof.Experts.Launch

@[expose] public section

set_option maxRecDepth 16384

noncomputable section

namespace Cert.Experts

open Idealize.ShloMosaic Idealize.ShloMosaic.TcCoe Cert.KernelIdeal Cert.KernelIdeal.Gen

variable {F : FTy → Type} [FloatOps F]

/-- Every block that a sound table asks for lies in its array. -/
theorem admissible (pf : pre0.Contents (Elt F)) (hR : Routed (F := F) (pf 0)) : ok0 pf := by
  have hw : ∀ i : grid0.Coords, ∀ b : Fin 3, (cc0_transform_1 k0_off1_inb numel1_S1 pf i b + 1) * S1x2048x512.size b ≤ S32x2048x512.size b := fun i b => by
    have h := own_lt (pf 0) (i 0).val (by have := lt96 i; omega)
    rw [expert_at pf hR i (by have := lt96 i; omega)]
    match b with
    | ⟨0, _⟩ => show (own (pf 0) (i 0).val _ + 1) * 1 ≤ 32; omega
    | ⟨1, _⟩ => show (0 + 1) * 2048 ≤ 2048; omega
    | ⟨2, _⟩ => show (0 + 1) * 512 ≤ 512; omega
  refine ⟨fun i => ⟨fun b => ?_, .inl rfl⟩, fun i => ⟨hw i, .inl rfl⟩, fun i => ⟨hw i, .inl rfl⟩, fun i => ⟨fun b => ?_, .inl rfl⟩⟩
  · have h := lt96 i
    rw [rows_at pf hR i]
    match b with
    | ⟨0, _⟩ => show (min (i 0).val (BitVec.toNat (pf 0 (wi 127 (by omega))) - 1) + 1) * 256 ≤ 24576; omega
    | ⟨1, _⟩ => show (0 + 1) * 2048 ≤ 2048; omega
  · have h := own_lt (pf 0) (i 0).val (by have := lt96 i; omega)
    have e : cc0_transform_3 k0_off1_inb numel1_S1 pf i = ![own (pf 0) (i 0).val (by have := lt96 i; omega), 0, 0] :=
      expert_at pf hR i (by have := lt96 i; omega)
    rw [e]
    match b with
    | ⟨0, _⟩ => show (own (pf 0) (i 0).val _ + 1) * 1 ≤ 32; omega
    | ⟨1, _⟩ => show (0 + 1) * 512 ≤ 512; omega
    | ⟨2, _⟩ => show (0 + 1) * 2048 ≤ 2048; omega

/-- The pipeline's configuration at a table. -/
def adm (T : S128.Idx → BitVec 32) (hR : Routed (F := F) T) : (pcfg0 (F := F)).Adm :=
  ⟨fun j => match j with | ⟨0, _⟩ => T, admissible _ hR⟩

theorem steady (a : (pcfg0 (F := F)).Adm) (m : (ℓ : Loc nD τ sig) → Buf (Elt F) ℓ) (hR : Routed (F := F) (a.1 0)) : Steady a m := by
  intro c t u _ hT
  have ho : own (a.1 0) t.val (lt128 a t) = own (a.1 0) u.val (lt128 a u) := congrArg (fun v : BitVec 32 => min v.toNat 31) hT
  refine ⟨funext fun y => ?_, funext fun y => ?_, funext fun y => ?_⟩
  · rw [blk1 a m hR, blk1 a m hR]; congr 1; congr 1
  · rw [blk3 a m hR, blk3 a m hR]; congr 1; congr 1
  · rw [blk2 a m hR, blk2 a m hR]; congr 1; congr 1

/-- From a memory whose table is sound, the result ends at what the pipeline's data say, the arguments as they were. -/
theorem kernel_ends (m : (ℓ : Loc nD τ sig) → Buf (Elt F) ℓ) (ρ : Dev nD → PrngReg) (T : S128.Idx → BitVec 32) (hR : Routed (F := F) T)
    (hp : ∀ c : Dev nD, m ((c : Thread nD τ).loc main_arg0) = T) :
    θ_run (defs (F := F)) (onTc (τ := τ) (main (F := F))) ⟨m, fun _ => 0, ρ⟩ (fun r => (∀ c : Dev nD,
      r.2.mem ((c.tc : Thread nD τ).loc main_v0) = (dats (adm T hR) m 0 c).arrAt (4 : Fin 5) (cfg0 (adm T hR)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  ends (adm T hR) m ρ hR (steady (adm T hR) m hR) hp

end Cert.Experts

end
-- ==== Proof.Experts.Array.lean ====
module

public import proofs.«01_k».proof.Proof.Experts.Spec
public import proofs.«01_k».proof.Proof.Experts.Table
public import Idealize.ShloMosaic.Lib.Pipeline.ValueKit

@[expose] public section

set_option maxRecDepth 16384
set_option maxHeartbeats 1000000

noncomputable section

namespace Cert.Experts

open Idealize.ShloMosaic Idealize.ShloMosaic.TcCoe Cert.KernelIdeal Cert.KernelIdeal.Gen

/-- The expert of tile `t`, for any natural number (zero outside). -/
def ex (T : S128.Idx → BitVec 32) (t : ℕ) : ℕ := if h : t < 128 then own T t h else 0

theorem ex_eq (T : S128.Idx → BitVec 32) {t : ℕ} (h : t < 128) : own T t h = ex T t := by
  unfold ex; rw [dif_pos h]

/-- An entry of the grouped experts' result: tile by tile the rows times their expert's weights, zero past the filled tiles. -/
def value (T : S128.Idx → BitVec 32) (X : S24576x2048.Idx → EReal) (W1 W3 : S32x2048x512.Idx → EReal) (W2 : S32x512x2048.Idx → EReal)
    (t p k : ℕ) : EReal :=
  if t < BitVec.toNat (T (wi 127 (by omega))) then
    mlp (fun q i => xat X (256 * t + q) i) (uat W1 (ex T t)) (uat W3 (ex T t)) (dat W2 (ex T t)) p k
  else 0

variable (a : (pcfg0 (F := Ideal)).Adm) (m : (ℓ : Loc nD τ sig) → Buf (Elt Ideal) ℓ)

theorem index4 (t : Fin (cfg0 a).N) : ((cfg0 a).win (4 : Fin 5)).index t = ![t.val, 0] := by
  have h : (BitVec.ofNat 32 (grid0.coords t 0).val).toNat = t.val := (ofNat_toNat32 (grid0.coords t)).trans (crd_val t)
  exact congrArg (fun v : ℕ => ![v, (0 : ℕ)]) h

theorem flush4 (t : Fin (cfg0 a).N) : ((cfg0 a).win (4 : Fin 5)).flush t = true := by
  unfold Pipeline.Window.flush
  refine Bool.and_eq_true_iff.2 ⟨rfl, ?_⟩
  by_cases h : t.val + 1 = (cfg0 a).grid.N
  · exact Bool.or_eq_true_iff.2 (.inl (decide_eq_true h))
  · have hl : t.val + 1 < (cfg0 a).grid.N := by
      have h1 : t.val < 96 := t.isLt
      have h2 : ¬ t.val + 1 = 96 := h
      show t.val + 1 < 96
      omega
    refine Bool.or_eq_true_iff.2 (.inr (decide_eq_true ⟨hl, fun he => ?_⟩))
    have e1 := index4 a ⟨t.val + 1, hl⟩
    have e2 := index4 a t
    rw [e1, e2] at he
    exact absurd (congrFun he 0) (by show ¬ (t.val + 1 = t.val); omega)

theorem covers : ((cfg0 a).win (4 : Fin 5)).Covers := by
  refine ⟨fun b => ?_, fun β => ?_⟩
  · match b with
    | ⟨0, _⟩ => show 0 < 256; omega
    | ⟨1, _⟩ => show 0 < 2048; omega
  · have h0 : (β ⟨0, by show 0 < 2; omega⟩).val < (24576 + 256 - 1) / 256 := by
      have h := (β ⟨0, by show 0 < 2; omega⟩).isLt
      exact h
    have h1 : (β ⟨1, by show 1 < 2; omega⟩).val < (2048 + 2048 - 1) / 2048 := by
      have h := (β ⟨1, by show 1 < 2; omega⟩).isLt
      exact h
    let t : Fin (cfg0 a).N := ⟨(β ⟨0, by show 0 < 2; omega⟩).val, by show _ < 96; omega⟩
    refine ⟨t, flush4 a t, fun b => ⟨?_, .inl ?_⟩⟩
    · rw [index4 a t]
      match b with
      | ⟨0, _⟩ => rfl
      | ⟨1, _⟩ => show 0 = _; omega
    · match b with
      | ⟨0, _⟩ => rfl
      | ⟨1, _⟩ => rfl

theorem tile_value (hR : Routed (F := Ideal) (a.1 0)) (c : Dev nD) (t : Fin (cfg0 a).N) (y : S256x2048.Idx) :
    tile a m c t y = value (a.1 0) (m ((c : Thread nD τ).loc main_arg1)) (m ((c : Thread nD τ).loc main_arg2)) (m ((c : Thread nD τ).loc main_arg3))
      (m ((c : Thread nD τ).loc main_arg4)) t.val (y 0).val (y 1).val := by
  unfold tile value
  by_cases h : t.val < cnt a
  · rw [if_pos h, if_pos h]
    refine filled_at _ _ _ _ _ _ _ _ (fun y => ?_) (fun y => ?_) (fun y => ?_) (fun y => ?_) y
    · exact (blkx a m hR c t h y).trans (xat_eq _ _ _)
    · exact (blk1 a m hR c t y).trans ((uat_eq _ _ _ _).trans (congrArg (fun e => uat _ e (y 1).val (y 2).val) (ex_eq _ (lt128 a t))))
    · exact (blk3 a m hR c t y).trans ((uat_eq _ _ _ _).trans (congrArg (fun e => uat _ e (y 1).val (y 2).val) (ex_eq _ (lt128 a t))))
    · exact (blk2 a m hR c t y).trans ((dat_eq _ _ _ _).trans (congrArg (fun e => dat _ e (y 1).val (y 2).val) (ex_eq _ (lt128 a t))))
  · rw [if_neg h, if_neg h]
    exact empty_at y

/-- The array the kernel leaves, entry by entry. -/
theorem kernel_array (hR : Routed (F := Ideal) (a.1 0)) (c : Dev nD) : (dats a m 0 c).arrAt (4 : Fin 5) (cfg0 a).N
    = fun y : S24576x2048.Idx => value (a.1 0) (m ((c : Thread nD τ).loc main_arg1)) (m ((c : Thread nD τ).loc main_arg2))
      (m ((c : Thread nD τ).loc main_arg3)) (m ((c : Thread nD τ).loc main_arg4)) ((y 0).val / 256) ((y 0).val % 256) (y 1).val := by
  refine (dats a m 0 c).arrAt_eq_of_covers (4 : Fin 5) _ (covers a) (fun t _ y => ?_) (Memref.isWhole_whole _)
  have e := index4 a t
  have hy : (y 0).val < 256 := (y 0).isLt
  have r0 : ((((cfg0 a).win (4 : Fin 5)).blk t).view.emb y 0).val = 256 * t.val + (y 0).val := by
    refine (show _ = ((cfg0 a).win (4 : Fin 5)).index t 0 * 256 + 1 * (y 0).val from rfl).trans ?_
    rw [e]
    show t.val * 256 + 1 * (y 0).val = _
    omega
  have r1 : ((((cfg0 a).win (4 : Fin 5)).blk t).view.emb y 1).val = (y 1).val := by
    refine (show _ = ((cfg0 a).win (4 : Fin 5)).index t 1 * 2048 + 1 * (y 1).val from rfl).trans ?_
    rw [e]
    show 0 * 2048 + 1 * (y 1).val = _
    omega
  refine (show _ = tile a m c t y from rfl).trans ((tile_value a m hR c t y).trans ?_)
  show value _ _ _ _ _ _ _ _ = value _ _ _ _ _ (((((cfg0 a).win (4 : Fin 5)).blk t).view.emb y 0).val / 256)
    (((((cfg0 a).win (4 : Fin 5)).blk t).view.emb y 0).val % 256) ((((cfg0 a).win (4 : Fin 5)).blk t).view.emb y 1).val
  rw [r0, r1, show (256 * t.val + (y 0).val) / 256 = t.val by omega, show (256 * t.val + (y 0).val) % 256 = (y 0).val by omega]

end Cert.Experts

end
-- ==== Proof.Experts.RefSide.lean ====
/- The reference, which runs every expert on every row, read entry by entry. -/
module

public import proofs.«01_k».proof.Proof.Experts.Array
public import proofs.«01_k».proof.Proof.Gen.ReferenceIdeal.Run
public import Idealize.ShloMosaic.Lib.Pointwise
public import Idealize.ShloMosaic.Lib.IdealHost

@[expose] public section

set_option maxRecDepth 16384
set_option maxHeartbeats 1000000

noncomputable section

namespace Cert.Experts.Ref

open Idealize.ShloMosaic Idealize.ShloMosaic.TcCoe Cert.ReferenceIdeal Cert.ReferenceIdeal.Gen Cert.Experts

/-- The gate of each tile and expert: one where the tile has chosen the expert and is filled, else zero. -/
def picks (T : IVec S128 32) : FVec Ideal S96x32 .f32 :=
  select (broadcastInDim S96x32 ![0, 1] bcast_S96x1_S96x32_0_1 (broadcastInDim S96x1 ![0] bcast_S96_S96x1_0
      (cmpi .slt (iotaInDim S96 32 0) (broadcastInDim S96 ![] bcast_S_S96 (shapeCast _ (extractStridedSlice S1 ![127] T slices_S128_S1_127) shapeCasts_S1_S_)))))
    (uitofp .f32 (cmpi .eq (broadcastInDim S96x32 ![0, 1] bcast_S96x1_S96x32_0_1 (broadcastInDim S96x1 ![0] bcast_S96_S96x1_0
      (minsi (extractStridedSlice S96 ![0] T slices_S128_S96_0) (broadcastInDim S96 ![] bcast_S_S96 (constantI S_ 32 31#32)))))
      (broadcastInDim S96x32 ![0, 1] bcast_S1x32_S96x32_0_1 (iotaInDim S1x32 32 1))))
    (broadcastInDim S96x32 ![] bcast_S_S96x32 (constant S_ .f32 0x00000000#32))

/-- The gate of each row and expert. -/
def gate (T : IVec S128 32) : FVec Ideal S24576x32 .f32 :=
  shapeCast _ (broadcastInDim S96x256x32 ![0, 1, 2] bcast_S96x1x32_S96x256x32_0_1_2
    (broadcastInDim S96x1x32 ![0, 2] bcast_S96x32_S96x1x32_0_2 (picks T))) shapeCasts_S96x256x32_S24576x32

/-- Every row times every expert's weights. -/
def up (X : FVec Ideal S24576x2048 .f32) (W : FVec Ideal S32x2048x512 .f32) : FVec Ideal S24576x32x512 .f32 :=
  Host.dotGeneral dot_S24576x2048_S32x2048x512_S24576x32x512_1_1_0_02_n_n none X W

/-- Times the logistic of itself. -/
def silu (G : FVec Ideal S24576x32x512 .f32) : FVec Ideal S24576x32x512 .f32 :=
  mulf G (Host.divf (broadcastInDim S24576x32x512 ![] bcast_S_S24576x32x512 (constant S_ .f32 0x3F800000#32))
    (addf (broadcastInDim S24576x32x512 ![] bcast_S_S24576x32x512 (constant S_ .f32 0x3F800000#32)) (Host.exp (Host.negf G))))

/-- Times the gate. -/
def gated (H : FVec Ideal S24576x32x512 .f32) (G : FVec Ideal S24576x32 .f32) : FVec Ideal S24576x32x512 .f32 :=
  mulf H (broadcastInDim S24576x32x512 ![0, 1, 2] bcast_S24576x32x1_S24576x32x512_0_1_2 (broadcastInDim S24576x32x1 ![0, 1] bcast_S24576x32_S24576x32x1_0_1 G))

/-- Back to the rows' width, summed over the experts. -/
def down (H : FVec Ideal S24576x32x512 .f32) (W : FVec Ideal S32x512x2048 .f32) : FVec Ideal S24576x2048 .f32 :=
  Host.dotGeneral dot_S24576x32x512_S32x512x2048_S24576x2048_12_01_0_2_n_n none H W

/-- The reference's result. -/
def out (T : IVec S128 32) (X : FVec Ideal S24576x2048 .f32) (W1 W3 : FVec Ideal S32x2048x512 .f32) (W2 : FVec Ideal S32x512x2048 .f32) :
    FVec Ideal S24576x2048 .f32 := down (gated (mulf (silu (up X W1)) (up X W3)) (gate T)) W2

/-- A gate is one for the expert of a filled tile and zero elsewhere. -/
theorem gate_at (T : IVec S128 32) (hT : Routed (F := Ideal) T) (r : Fin 24576) (e : Fin 32) :
    gate T (ix2 r e) = if r.val / 256 < (T (wi 127 (by omega))).toNat ∧ e.val = ex T (r.val / 256) then 1 else 0 := by
  have hr : r.val / 256 < 96 := by have := r.isLt; omega
  have h128 : r.val / 256 < 128 := by omega
  have h : gate T (ix2 r e) = Scalar.select (IntOp.cmpi CmpIPredicate.slt (BitVec.ofNat 32 (r.val / 256)) (T (wi 127 (by omega))))
      (FloatOps.uitofp (F := Ideal) FTy.f32 (IntOp.cmpi CmpIPredicate.eq (Scalar.minsi (T (wi (r.val / 256) h128)) 31#32) (BitVec.ofNat 32 e.val))) 0 := by
    pointwise [gate, picks]
    rw [wi_ext (ix1 127) (k := 127) (by omega) rfl, wi_ext (ix1 _) h128 rfl]
    rfl
  refine h.trans ?_
  have hs := slt_iff (r.val / 256) hr (T (wi 127 (by omega))) (hT.pos _)
  have hm : (Scalar.minsi (T (wi (r.val / 256) h128)) 31#32).toNat = ex T (r.val / 256) := (min31 _ (hT.pos _)).trans (ex_eq T h128)
  have he : (BitVec.ofNat 32 e.val).toNat = e.val := by have := e.isLt; rw [BitVec.toNat_ofNat]; omega
  by_cases hc : r.val / 256 < (T (wi 127 (by omega))).toNat
  · refine (if_pos (hs.2 hc)).trans ?_
    rw [WordCmp.cmpi_eq_eq_toNat, hm, he]
    show (((BitVec.ofBool (decide (ex T (r.val / 256) = e.val))).toNat : ℝ) : EReal) = _
    by_cases hx : e.val = ex T (r.val / 256)
    · rw [if_pos ⟨hc, hx⟩, decide_eq_true hx.symm]
      simp
    · rw [if_neg fun h => hx h.2, decide_eq_false fun h => hx h.symm]
      simp
  · exact (if_neg fun h' => hc (hs.1 h')).trans (if_neg fun h => hc h.1).symm

theorem up_at (X : FVec Ideal S24576x2048 .f32) (W : FVec Ideal S32x2048x512 .f32) (r : Fin 24576) (e : Fin 32) (j : Fin 512) :
    up X W (ix3 r e j) = proj (fun q i => xat X (256 * (r.val / 256) + q) i) (uat W e.val) (r.val % 256) j.val := by
  pointwise [up]
  refine Finset.sum_congr rfl fun x _ => congrArg₂ (· * ·) ?_ ?_
  · refine Eq.trans ?_ ((xat_eq X (r := r.val) (k := x.val) r.isLt x.isLt).trans (congrArg (fun v => xat X v x.val) (by omega)))
    exact congrArg X (funext fun b => match b with | ⟨0, _⟩ => rfl | ⟨1, _⟩ => rfl)
  · refine (congrArg W (funext fun b => ?_)).trans (uat_eq W e.isLt x.isLt j.isLt)
    match b with | ⟨0, _⟩ => rfl | ⟨1, _⟩ => rfl | ⟨2, _⟩ => rfl

theorem silu_at (G : FVec Ideal S24576x32x512 .f32) (y) : silu G y = G y * Ideal.div 1 (1 + Ideal.exp (-G y)) := by
  pointwise [silu]

theorem gated_at (H : FVec Ideal S24576x32x512 .f32) (G : FVec Ideal S24576x32 .f32) (r : Fin 24576) (e : Fin 32) (j : Fin 512) :
    gated H G (ix3 r e j) = H (ix3 r e j) * G (ix2 r e) := by
  pointwise [gated]

theorem down_at (H : FVec Ideal S24576x32x512 .f32) (W : FVec Ideal S32x512x2048 .f32) (r : Fin 24576) (k : Fin 2048) :
    down H W (ix2 r k) = ∑ e : Fin 32, ∑ j : Fin 512, H (ix3 r e j) * dat W e.val j.val k.val := by
  pointwise [down]
  refine Finset.sum_congr rfl fun e _ => Finset.sum_congr rfl fun j _ => congrArg₂ (· * ·) rfl ?_
  refine (congrArg W (funext fun b => ?_)).trans (dat_eq W e.isLt j.isLt k.isLt)
  match b with | ⟨0, _⟩ => rfl | ⟨1, _⟩ => rfl | ⟨2, _⟩ => rfl

theorem ex_lt (T : IVec S128 32) {t : ℕ} (ht : t < 128) : ex T t < 32 := by
  rw [← ex_eq T ht]; exact own_lt _ _ _

/-- An entry of the reference's result: of the sum over the experts the chosen one alone is left. -/
theorem ref_at (T : IVec S128 32) (hT : Routed (F := Ideal) T) (X : FVec Ideal S24576x2048 .f32) (W1 W3 : FVec Ideal S32x2048x512 .f32)
    (W2 : FVec Ideal S32x512x2048 .f32) (y : S24576x2048.Idx) :
    out T X W1 W3 W2 y = value T X W1 W3 W2 ((y 0).val / 256) ((y 0).val % 256) (y 1).val := by
  have y0 : (y 0).val < 24576 := (y 0).isLt
  have h128 : (y 0).val / 256 < 128 := by omega
  have hy : y = ix2 (y 0) (y 1) := funext fun b => match b with | ⟨0, _⟩ => rfl | ⟨1, _⟩ => rfl
  have hd : out T X W1 W3 W2 y = ∑ e : Fin 32, ∑ j : Fin 512, (mulf (silu (up X W1)) (up X W3) (ix3 (y 0) e j) * gate T (ix2 (y 0) e)) * dat W2 e.val j.val (y 1).val := by
    refine (congrArg (out T X W1 W3 W2) hy).trans ((down_at _ W2 (y 0) (y 1)).trans ?_)
    exact Finset.sum_congr rfl fun e _ => Finset.sum_congr rfl fun j _ => congrArg (· * _) (gated_at _ _ _ _ _)
  refine hd.trans ?_
  have hz : ∀ e : Fin 32, gate T (ix2 (y 0) e) = 0 →
      ∑ j : Fin 512, (mulf (silu (up X W1)) (up X W3) (ix3 (y 0) e j) * gate T (ix2 (y 0) e)) * dat W2 e.val j.val (y 1).val = 0 := fun e he =>
    Finset.sum_eq_zero fun j _ => by rw [he, mul_zero, zero_mul]
  unfold value
  by_cases hc : (y 0).val / 256 < (T (wi 127 (by omega))).toNat
  · refine Eq.trans ?_ (if_pos hc).symm
    refine (Finset.sum_eq_single (⟨ex T ((y 0).val / 256), ex_lt T h128⟩ : Fin 32) (fun e _ hne => hz e ?_) (fun h => absurd (Finset.mem_univ _) h)).trans ?_
    · exact (gate_at T hT (y 0) e).trans (if_neg fun h => hne (Fin.ext h.2))
    · refine Finset.sum_congr rfl fun j _ => congrArg (· * _) ?_
      rw [gate_at T hT (y 0) _, if_pos ⟨hc, rfl⟩, mul_one]
      refine (congrArg₂ (· * ·) ((silu_at _ _).trans ?_) (up_at X W3 (y 0) _ j) : _ = act _ _)
      rw [up_at X W1 (y 0) _ j]
  · refine (Finset.sum_eq_zero fun e _ => hz e ?_).trans (if_neg hc).symm
    exact (gate_at T hT (y 0) e).trans (if_neg fun h => hc h.1)

end Cert.Experts.Ref

end
-- ==== Proof.Experts.Given.lean ====
/- What the precondition says of the table of tiles. -/
module

public import proofs.«01_k».proof.Proof.Experts.Words
public import proofs.«01_k».proof.Proof.Gen.Pre_routed
public import Idealize.ShloMosaic.Lib.ReduceAll
public import Idealize.ShloMosaic.Lib.Pointwise

@[expose] public section

set_option maxRecDepth 16384

noncomputable section

namespace Cert.Experts

open Idealize.ShloMosaic Idealize.ShloMosaic.WordCmp

/-- A comparison against zero: the word is not negative. -/
theorem pos_of (v : BitVec 32) (h : IntOp.cmpi .sge v 0#32 = 1#1) : v.toNat < 2 ^ 31 := by
  rw [cmpi_sge_zero] at h
  by_contra hc
  rw [decide_eq_false hc] at h
  exact absurd h (by decide)

theorem routed_of {F : FTy → Type} [FloatOps F] {T : IVec Cert.Pre_routed.S128 32} {X : FVec F Cert.Pre_routed.S24576x2048 .f32}
    {W1 W3 : FVec F Cert.Pre_routed.S32x2048x512 .f32} {W2 : FVec F Cert.Pre_routed.S32x512x2048 .f32}
    (h : Cert.Pre_routed.fn (F := F) T X W1 W3 W2 = fun _ => 1#1) : Routed (F := F) T := by
  obtain ⟨h1, h2⟩ := IntOp.andi_eq_one.1 (congrFun h ix0)
  have : Subsingleton Cert.Pre_routed.S_.Idx := ⟨fun a b => funext fun i => i.elim0⟩
  have hp : ∀ x, BitVec.toNat (T x) < 2 ^ 31 := fun x => pos_of _ (Host.reduce_andi_all _ _ _ _ _ h1 x)
  refine ⟨hp, ?_⟩
  have e : IntOp.cmpi .sge (T (wi 127 (by omega))) 1#32 = 1#1 := by
    refine Eq.trans (congrArg (fun v => IntOp.cmpi .sge (T v) 1#32) ?_) h2
    exact (wi_ext (k := 127) _ (by omega) rfl).symm
  rw [cmpi_sge_of_lt (hp _) (by decide)] at e
  by_contra hc
  rw [decide_eq_false (by simpa using hc)] at e
  exact absurd e (by decide)

end Cert.Experts

end
-- ==== Proof.Experts.Same.lean ====
/- The kernel's program and its idealization are one text. -/
module

public import proofs.«01_k».proof.Proof.Gen.Kernel
public import proofs.«01_k».proof.Proof.Gen.KernelIdeal

@[expose] public section

set_option maxRecDepth 65536
set_option maxHeartbeats 1000000

noncomputable section

namespace Cert.Experts

open Idealize.ShloMosaic Idealize.SL.Sem

variable {F : FTy → Type} [FloatOps F]

theorem same_body : @Cert.Kernel.cc0_experts F _ _ = @Cert.KernelIdeal.cc0_experts F _ _ := rfl

theorem same_pcfg : Cert.Kernel.pcfg0 (F := F) = Cert.KernelIdeal.pcfg0 (F := F) := rfl

theorem same_at (i : Cert.KernelIdeal.grid0.Coords) (a1 h1 a2 h2 a3 h3 a4 h4 a5 h5 a6 h6 a7 h7 a8 h8 a9 h9) :
    Cert.Kernel.cc0_experts (F := F) i a1 h1 a2 h2 a3 h3 a4 h4 a5 h5 a6 h6 a7 h7 a8 h8 a9 h9
      = Cert.KernelIdeal.cc0_experts (F := F) i a1 h1 a2 h2 a3 h3 a4 h4 a5 h5 a6 h6 a7 h7 a8 h8 a9 h9 := rfl

theorem same_defs₀ : Cert.Kernel.defs₀ (F := F) = Cert.KernelIdeal.defs₀ (F := F) := by
  refine congrArg Defs.onTc (funext fun l => funext fun x => ?_)
  match l, x with
  | 0, (t, s) => exact same_at _ _ _ _ _ _ _ _ _ _ _ _ _ _ _ _ _ _ _

theorem same_defs : Cert.Kernel.defs (F := F) = Cert.KernelIdeal.defs (F := F) := congrArg (Pipeline.defs (Cert.KernelIdeal.pcfgs (F := F))) same_defs₀

theorem same_main : Cert.Kernel.main (F := F) = Cert.KernelIdeal.main (F := F) := rfl

/-- What holds of every run of the idealization holds of every run of the kernel. -/
theorem run_kernel (m : (ℓ : Loc Cert.KernelIdeal.nD Cert.KernelIdeal.τ Cert.KernelIdeal.sig) → Buf (Elt F) ℓ) (ρ : Dev Cert.KernelIdeal.nD → PrngReg) (Q)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q :=
  (congrArg₂ (fun d p => θ_run d (onTc (τ := Cert.KernelIdeal.τ) p) ⟨m, fun _ => 0, ρ⟩ Q) same_defs same_main).mpr h

end Cert.Experts

end
-- ==== Proof.lean ====
/- The grouped experts: the frames, the idealization and the equality with the reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_routed
public import proofs.«01_k».proof.Proof.Experts.RefSide
public import proofs.«01_k».proof.Proof.Experts.Given
public import proofs.«01_k».proof.Proof.Experts.Same
public import Idealize.ShloMosaic.Adequacy
public import Idealize.ShloMosaic.Init

@[expose] public section

set_option maxRecDepth 65536
set_option maxHeartbeats 1000000

noncomputable section

namespace Cert.Proof

open Idealize.ShloMosaic Idealize.SL.Sem Cert.Kernel

/-- There is one device. -/
theorem one_table {nD : ℕ} (h : nD = 1) (a b : Dev nD) : a = b := by subst h; exact Subsingleton.elim a b

/-- The sound table that the precondition gives. -/
theorem table {m : (ℓ : Loc Cert.KernelIdeal.nD Cert.KernelIdeal.τ Cert.KernelIdeal.sig) → Buf (Elt Ideal) ℓ} (h : Cert.Pre_KernelIdeal m) (c : Dev Cert.KernelIdeal.nD) :
    Cert.Experts.Routed (F := Ideal) (m ((c.tc : Thread Cert.KernelIdeal.nD Cert.KernelIdeal.τ).loc Cert.KernelIdeal.main_arg0)) :=
  Cert.Experts.routed_of (h c)

theorem frame_p : Cert.quiescent_Kernel := fun m ρ h =>
  Cert.Experts.run_kernel m ρ _ ((θ_run Cert.KernelIdeal.defs _ _).mono (fun r h => ⟨fun c => (h.1 c).2, h.2⟩)
    (Cert.Experts.kernel_ends (F := Bits) m ρ _ (Cert.Experts.routed_of (h 0)) (fun c => by rw [one_table rfl c 0])))

theorem frame_pi : Cert.quiescent_KernelIdeal := fun m ρ h =>
  (θ_run Cert.KernelIdeal.defs _ _).mono (fun r h => ⟨fun c => (h.1 c).2, h.2⟩)
    (Cert.Experts.kernel_ends (F := Ideal) m ρ _ (table h 0) (fun c => by rw [one_table rfl c 0]))

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem same : Cert.algebraic_KernelIdeal_ReferenceIdeal := by
  intro m g m' g' hp ha
  refine ⟨fun c => (Cert.Experts.dats (Cert.Experts.adm _ (table hp 0)) m 0 c).arrAt (4 : Fin 5) (Cert.KernelIdeal.cfg0 (Cert.Experts.adm _ (table hp 0))).N, ?_, ?_⟩
  · exact (θ_run Cert.KernelIdeal.defs _ _).mono (fun r h => h.1)
      (Cert.Experts.kernel_ends (F := Ideal) m g _ (table hp 0) (fun c => by rw [one_table rfl c 0]))
  · refine (θ_run Cert.ReferenceIdeal.defs _ _).mono (fun r h c => ⟨(h c).1.trans ?_, (h c).2⟩) (Cert.ReferenceIdeal.Value.run (F := Ideal) m' g')
    obtain rfl := one_table rfl c 0
    beta_reduce
    refine (Eq.trans (?_ : Cert.Experts.Ref.out (m' ((Dev.tc (nD := Cert.ReferenceIdeal.nD) 0 : Thread Cert.ReferenceIdeal.nD Cert.ReferenceIdeal.τ).loc
      Cert.ReferenceIdeal.main_arg0)) _ _ _ _ = _) (Cert.Experts.kernel_array (Cert.Experts.adm _ (table hp 0)) m (table hp 0) _).symm)
    rw [(ha 0).1, (ha 0).2.1, (ha 0).2.2.1, (ha 0).2.2.2.1, (ha 0).2.2.2.2]
    exact funext fun y => Cert.Experts.Ref.ref_at _ (table hp 0) _ _ _ _ y

theorem claim : Cert.Claim :=
  ⟨Cert.Kernel.Gen.facts, Cert.KernelIdeal.Gen.facts, Cert.ReferenceIdeal.Gen.facts, Cert.Pre_routed.Gen.facts,
    frame_p, frame_pi, frame_ri, fun m ρ _ => frame_ri m ρ trivial, trivial, same⟩

end Cert.Proof

end
